-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x3072 : Shape := ⟨3, ![1, 1024, 3072]⟩
abbrev S122880x1536 : Shape := ⟨2, ![122880, 1536]⟩
abbrev S122880 : Shape := ⟨1, ![122880]⟩
abbrev S1024x1536x2 : Shape := ⟨3, ![1024, 1536, 2]⟩
abbrev S2x1536x1024 : Shape := ⟨3, ![2, 1536, 1024]⟩
abbrev S3072x1024 : Shape := ⟨2, ![3072, 1024]⟩
abbrev S240x1x512 : Shape := ⟨3, ![240, 1, 512]⟩
abbrev S1024x128 : Shape := ⟨2, ![1024, 128]⟩
abbrev S512x1536 : Shape := ⟨2, ![512, 1536]⟩
abbrev S1x1x512 : Shape := ⟨3, ![1, 1, 512]⟩
abbrev S512x3072 : Shape := ⟨2, ![512, 3072]⟩
abbrev S512x1024 : Shape := ⟨2, ![512, 1024]⟩
abbrev S8x10x8x128 : Shape := ⟨4, ![8, 10, 8, 128]⟩
abbrev S128x1536 : Shape := ⟨2, ![128, 1536]⟩
abbrev S1x1x128 : Shape := ⟨3, ![1, 1, 128]⟩
abbrev S1x128 : Shape := ⟨2, ![1, 128]⟩
abbrev S128x128 : Shape := ⟨2, ![128, 128]⟩
abbrev S512x128 : Shape := ⟨2, ![512, 128]⟩
abbrev S1x1x8x128 : Shape := ⟨4, ![1, 1, 8, 128]⟩
abbrev S8x128 : Shape := ⟨2, ![8, 128]⟩
abbrev S112x128 : Shape := ⟨2, ![112, 128]⟩
abbrev S1024x10 : Shape := ⟨2, ![1024, 10]⟩
abbrev S1x1024x10 : Shape := ⟨3, ![1, 1024, 10]⟩

abbrev nBuf : Space → Nat
  | .hbm => 10
  | .vmem => 9
  | .smem => 0
  | _ => 0

abbrev bufTy : (tb : Table) → Fin (tcTables nBuf tb) → BufTy
  | .hbm, ⟨0, _⟩ => ⟨S1x1024x3072, .bf16⟩
  | .hbm, ⟨1, _⟩ => ⟨S122880x1536, .i8⟩
  | .hbm, ⟨2, _⟩ => ⟨S122880, .f32⟩
  | .hbm, ⟨3, _⟩ => ⟨S1024x1536x2, .bf16⟩
  | .hbm, ⟨4, _⟩ => ⟨S2x1536x1024, .bf16⟩
  | .hbm, ⟨5, _⟩ => ⟨S3072x1024, .bf16⟩
  | .hbm, ⟨6, _⟩ => ⟨S240x1x512, .f32⟩
  | .hbm, ⟨7, _⟩ => ⟨S1024x128, .f32⟩
  | .hbm, ⟨8, _⟩ => ⟨S1024x10, .f32⟩
  | .hbm, ⟨9, _⟩ => ⟨S1x1024x10, .f32⟩
  | .local _ .vmem, ⟨0, _⟩ => ⟨S3072x1024, .bf16⟩
  | .local _ .vmem, ⟨1, _⟩ => ⟨S512x1536, .i8⟩
  | .local _ .vmem, ⟨2, _⟩ => ⟨S512x1536, .i8⟩
  | .local _ .vmem, ⟨3, _⟩ => ⟨S1x1x512, .f32⟩
  | .local _ .vmem, ⟨4, _⟩ => ⟨S1x1x512, .f32⟩
  | .local _ .vmem, ⟨5, _⟩ => ⟨S1024x128, .f32⟩
  | .local _ .vmem, ⟨6, _⟩ => ⟨S512x3072, .bf16⟩
  | .local _ .vmem, ⟨7, _⟩ => ⟨S512x1024, .f32⟩
  | .local _ .vmem, ⟨8, _⟩ => ⟨S8x10x8x128, .f32⟩
  | _, _ => ⟨S1x1024x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![240], ![false]⟩

def k0_cond2 (i : grid0.Coords) : BitVec 1 :=
  let arg0 : BitVec 32 := BitVec.ofNat 32 (i 0).val
  let c239_i32 : BitVec 32 := 239#32
  let v6857 : BitVec 1 := Scalar.cmpi .eq arg0 c239_i32
  let v6858 : BitVec 32 := Scalar.extui v6857
  let c0_i32_1617 : BitVec 32 := 0#32
  let v6859 : BitVec 1 := Scalar.cmpi .ne v6858 c0_i32_1617
  v6859

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S3072x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1536 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S1x1024x3072 : Shape := ⟨3, ![1, 1024, 3072]⟩
abbrev S122880x1536 : Shape := ⟨2, ![122880, 1536]⟩
abbrev S122880 : Shape := ⟨1, ![122880]⟩
abbrev S1024x3072 : Shape := ⟨2, ![1024, 3072]⟩
abbrev S1024x1536 : Shape := ⟨2, ![1024, 1536]⟩
abbrev S_ : Shape := ⟨0, ![]⟩
abbrev S1024x122880 : Shape := ⟨2, ![1024, 122880]⟩
abbrev S1x122880 : Shape := ⟨2, ![1, 122880]⟩
abbrev S1024x10 : Shape := ⟨2, ![1024, 10]⟩
abbrev S1x1024x10 : Shape := ⟨3, ![1, 1024, 10]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x3072, .bf16⟩
  | .hbm, ⟨1, _⟩ => ⟨S122880x1536, .i8⟩
  | .hbm, ⟨2, _⟩ => ⟨S122880, .f32⟩
  | .hbm, ⟨3, _⟩ => ⟨S1024x3072, .bf16⟩
  | .hbm, ⟨4, _⟩ => ⟨S1024x1536, .bf16⟩
  | .hbm, ⟨5, _⟩ => ⟨S1024x1536, .bf16⟩
  | .hbm, ⟨6, _⟩ => ⟨S122880x1536, .i32⟩
  | .hbm, ⟨7, _⟩ => ⟨S_, .i32⟩
  | .hbm, ⟨8, _⟩ => ⟨S122880x1536, .i32⟩
  | .hbm, ⟨9, _⟩ => ⟨S122880x1536, .i32⟩
  | .hbm, ⟨10, _⟩ => ⟨S_, .i32⟩
  | .hbm, ⟨11, _⟩ => ⟨S122880x1536, .i32⟩
  | .hbm, ⟨12, _⟩ => ⟨S122880x1536, .i1⟩
  | .hbm, ⟨13, _⟩ => ⟨S122880x1536, .i32⟩
  | .hbm, ⟨14, _⟩ => ⟨S_, .i32⟩
  | .hbm, ⟨15, _⟩ => ⟨S122880x1536, .i32⟩
  | .hbm, ⟨16, _⟩ => ⟨S122880x1536, .i32⟩
  | .hbm, ⟨17, _⟩ => ⟨S122880x1536, .i32⟩
  | .hbm, ⟨18, _⟩ => ⟨S122880x1536, .bf16⟩
  | .hbm, ⟨19, _⟩ => ⟨S_, .i32⟩
  | .hbm, ⟨20, _⟩ => ⟨S122880x1536, .i32⟩
  | .hbm, ⟨21, _⟩ => ⟨S122880x1536, .i32⟩
  | .hbm, ⟨22, _⟩ => ⟨S_, .i32⟩
  | .hbm, ⟨23, _⟩ => ⟨S122880x1536, .i32⟩
  | .hbm, ⟨24, _⟩ => ⟨S122880x1536, .i1⟩
  | .hbm, ⟨25, _⟩ => ⟨S122880x1536, .i32⟩
  | .hbm, ⟨26, _⟩ => ⟨S_, .i32⟩
  | .hbm, ⟨27, _⟩ => ⟨S122880x1536, .i32⟩
  | .hbm, ⟨28, _⟩ => ⟨S122880x1536, .i32⟩
  | .hbm, ⟨29, _⟩ => ⟨S122880x1536, .i32⟩
  | .hbm, ⟨30, _⟩ => ⟨S122880x1536, .bf16⟩
  | .hbm, ⟨31, _⟩ => ⟨S1024x122880, .f32⟩
  | .hbm, ⟨32, _⟩ => ⟨S1024x122880, .f32⟩
  | .hbm, ⟨33, _⟩ => ⟨S1024x122880, .f32⟩
  | .hbm, ⟨34, _⟩ => ⟨S1x122880, .f32⟩
  | .hbm, ⟨35, _⟩ => ⟨S1024x122880, .f32⟩
  | .hbm, ⟨36, _⟩ => ⟨S1024x122880, .f32⟩
  | .hbm, ⟨37, _⟩ => ⟨S1024x10, .f32⟩
  | .hbm, ⟨38, _⟩ => ⟨S1024x10, .i32⟩
  | .hbm, ⟨39, _⟩ => ⟨S1x1024x10, .f32⟩
  | _, _ => ⟨S1x1024x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_values : Ref sig .tc := ⟨.hbm, 37, rfl⟩
abbrev main_indices : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Proof.Array.lean ====
/- The kernel's run read at its result: the array the last grid point writes back, and the host's slice and reshape of it. -/
module

public import proofs.«01_k».proof.Proof.Gen.KernelIdeal.Frame
public import Idealize.ShloMosaic.Lib.Pipeline.Value
public import Idealize.ShloMosaic.Lib.ValueIdx

@[expose] public section

noncomputable section

namespace Cert.Array

open Idealize.ShloMosaic Idealize.ShloMosaic.TcCoe Idealize.SL.Sem Idealize.ShloMosaic.Pipeline
  Idealize.ShloMosaic.ValueIdx Cert.KernelIdeal Cert.KernelIdeal.Gen

variable {F : FTy → Type} [FloatOps F]

attribute [local irreducible] outsAt0 kernelRun0_A kernelRun0_B kernelRun0_C

variable (m : (ℓ : Loc nD τ sig) → Buf (Elt F) ℓ) (ρ : Dev nD → PrngReg)

/-- The last grid point. -/
def tLast : Fin cfg0.N := ⟨239, lt_of_lt_of_eq (by decide) N_0.symm⟩

/-- Output block indices are zero at every point. -/
theorem idx3 : ∀ t : Fin cfg0.N, win0_3.index t (0 : Fin 2) = 0 ∧ win0_3.index t (1 : Fin 2) = 0 :=
  (by decide +kernel : ∀ t : Fin grid0.N, _)

/-- The last point writes the result back. -/
theorem flush_last : (cfg0.win 3).flush tLast = true :=
  (flush0_3 tLast).mpr (by decide)

/-- What a flushing point writes back is the last point's result. -/
theorem flushed3_eq (c : Dev nD) (t : Fin cfg0.N) (hf : (cfg0.win 3).flush t = true) :
    (dats m 0 c).flushed 3 t = ((cfg0.win 3).blk t).view.read (Elt F) (outsAt0 m c tLast.val tLast.isLt).1 := by
  show (cfg0.win 3).cut (grid0.coords t) ((dats m 0 c).after 3 t) = _
  have hm : t.val % 240 = 239 := (flush0_3 t).mp hf
  have hN : t.val < 240 := lt_of_lt_of_eq t.isLt (show cfg0.N = 240 from N_0)
  obtain rfl : t = tLast := Fin.ext (show t.val = 239 by omega)
  rw [after0_3]
  obtain ⟨e0, e1⟩ := idx3 tLast
  funext y
  have hb0 : (((cfg0.win 3).blk tLast).view.emb y 0).val = win0_3.index tLast (0 : Fin 2) * 1024 + 1 * (y 0).val := rfl
  have hb1 : (((cfg0.win 3).blk tLast).view.emb y 1).val = win0_3.index tLast (1 : Fin 2) * 128 + 1 * (y 1).val := rfl
  have hl : (cfg0.win 3).xinj (grid0.coords tLast) y = ((cfg0.win 3).blk tLast).view.emb y := by
    funext a; apply Fin.ext
    match a with
    | ⟨0, _⟩ => show (y 0).val = (((cfg0.win 3).blk tLast).view.emb y 0).val; rw [hb0, e0]; omega
    | ⟨1, _⟩ => show (y 1).val = (((cfg0.win 3).blk tLast).view.emb y 1).val; rw [hb1, e1]; omega
  show (outsAt0 m c tLast.val tLast.isLt).1 ((cfg0.win 3).xinj (grid0.coords tLast) y) = _
  rw [hl]
  rfl

/-- Every index lies in the block the last point writes back. -/
theorem covered (i : S1024x128.Idx) : i ∈ ((cfg0.win 3).blk tLast).view.set := by
  show i ∈ ((View.whole main_v4).slice (win0_3.rect tLast)).set
  rw [View.set_slice_whole, Rect.mem_set_unit]
  obtain ⟨e0, e1⟩ := idx3 tLast
  intro a
  match a with
  | ⟨0, _⟩ =>
    have h := (i 0).isLt
    show win0_3.index tLast (0 : Fin 2) * 1024 ≤ (i 0).val ∧ (i 0).val < win0_3.index tLast (0 : Fin 2) * 1024 + 1024
    have h' : (i 0).val < 1024 := h
    omega
  | ⟨1, _⟩ =>
    have h := (i 1).isLt
    show win0_3.index tLast (1 : Fin 2) * 128 ≤ (i 1).val ∧ (i 1).val < win0_3.index tLast (1 : Fin 2) * 128 + 128
    have h' : (i 1).val < 128 := h
    omega

/-- The array after the run is the last point's result. -/
theorem final3 (c : Dev nD) : (dats m 0 c).arrAt 3 cfg0.N = (outsAt0 m c tLast.val tLast.isLt).1 :=
  (dats m 0 c).arrAt_eq_of_cover 3 _ (fun t hf => flushed3_eq m c t hf) (fun i => ⟨tLast, flush_last, covered i⟩)

/-- What the host lines after the kernel leave in the result. -/
theorem tail_eq (c : Dev nD) :
    Pipeline.afterTail₀ cfgs (dats m) 0 (V0 m) [hostOps1] c main_v6
      = shapeCast S1x1024x10 (extractStridedSlice S1024x10 ![0, 0] (outsAt0 m c tLast.val tLast.isLt).1
          slices_S1024x128_S1024x10_0_0) shapeCasts_S1024x10_S1x1024x10 := by
  have hA := Pipeline.withArrays_arr cfg0.spec launch0.win.arr_inj c (V0 m c) (fun w => (dats m 0 c).arrAt w cfg0.N) 3
  rw [final3] at hA
  unfold Pipeline.afterTail₀
  show StableHlo.after hostOps1 _ _ = _
  after_results_simp
  exact congrArg (fun X : (⟨S1024x128, .f32⟩ : BufTy).Contents (Elt F) => shapeCast S1x1024x10
    (extractStridedSlice S1024x10 ![0, 0] X slices_S1024x128_S1024x10_0_0) shapeCasts_S1024x10_S1x1024x10) hA

/-- The kernel's run with its result named and the arguments unchanged. -/
theorem run : θ_run defs (onTc (τ := τ) (main (F := F))) ⟨m, fun _ => 0, ρ⟩ fun r => ∀ c : Dev nD,
      r.2.mem ((c : Thread nD τ).loc main_v6)
        = shapeCast S1x1024x10 (extractStridedSlice S1024x10 ![0, 0] (outsAt0 m c tLast.val tLast.isLt).1
          slices_S1024x128_S1024x10_0_0) shapeCasts_S1024x10_S1x1024x10
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨?_, h.2 c⟩) (θ_run_and (run_main m ρ) (unchanged m ρ))
  exact ((h.1 c).2 main_v6 (Pipeline.mem_restRefs_of main_v6 (by decide) (by decide))).trans (tail_eq m c)

end Cert.Array

end
-- ==== Proof.TopNet.lean ====
/- The kernel's two compare networks over any type with a `max` and a `min`, written straight as the kernel lays them out
   (`sort8`, `merge8`, `merge10`), and what they compute over a linear order: the ten greatest of the values they are given
   (`merge8_eq_topList`, `merge10_eq_topList`). The proof is by thresholds: a monotone map to the Booleans commutes with a
   network, and on Booleans the statement is a finite check. -/
module

public import Idealize.ShloMosaic.Lib.SortNet.TopList

@[expose] public section

namespace Cert.TopNet

open Idealize.ShloMosaic.SortNet

section defs

variable {α β : Type*} (mx mn : α → α → α)

/-- The kernel's sorting network on eight values, greatest first: nineteen exchanges. The results go to `k`. -/
def sort8 (v0 v1 v2 v3 v4 v5 v6 v7 : α) (k : α → α → α → α → α → α → α → α → β) : β :=
  let t0 := mx v0 v1
  let t1 := mn v0 v1
  let t2 := mx v2 v3
  let t3 := mn v2 v3
  let t4 := mx v4 v5
  let t5 := mn v4 v5
  let t6 := mx v6 v7
  let t7 := mn v6 v7
  let t8 := mx t0 t2
  let t9 := mn t0 t2
  let t10 := mx t1 t3
  let t11 := mn t1 t3
  let t12 := mx t4 t6
  let t13 := mn t4 t6
  let t14 := mx t5 t7
  let t15 := mn t5 t7
  let t16 := mx t10 t9
  let t17 := mn t10 t9
  let t18 := mx t14 t13
  let t19 := mn t14 t13
  let t20 := mx t8 t12
  let t21 := mn t8 t12
  let t22 := mx t16 t18
  let t23 := mn t16 t18
  let t24 := mx t17 t19
  let t25 := mn t17 t19
  let t26 := mx t11 t15
  let t27 := mn t11 t15
  let t28 := mx t24 t21
  let t29 := mn t24 t21
  let t30 := mx t26 t23
  let t31 := mn t26 t23
  let t32 := mx t22 t28
  let t33 := mn t22 t28
  let t34 := mx t30 t29
  let t35 := mn t30 t29
  let t36 := mx t31 t25
  let t37 := mn t31 t25
  k t20 t32 t33 t34 t35 t36 t37 t27

/-- The kernel's merge of ten descending values with eight descending values, keeping the ten greatest, descending. -/
def merge8 (b0 b1 b2 b3 b4 b5 b6 b7 b8 b9 v0 v1 v2 v3 v4 v5 v6 v7 : α) (k : α → α → α → α → α → α → α → α → α → α → β) : β :=
  let t0 := mx b9 v0
  let t1 := mx b8 v1
  let t2 := mx b7 v2
  let t3 := mx b6 v3
  let t4 := mx b5 v4
  let t5 := mx b4 v5
  let t6 := mx b3 v6
  let t7 := mx b2 v7
  let t8 := mx b0 t1
  let t9 := mn b0 t1
  let t10 := mx b1 t0
  let t11 := mn b1 t0
  let t12 := mx t8 t10
  let t13 := mn t8 t10
  let t14 := mx t9 t5
  let t15 := mn t9 t5
  let t16 := mx t11 t4
  let t17 := mn t11 t4
  let t18 := mx t7 t3
  let t19 := mn t7 t3
  let t20 := mx t6 t2
  let t21 := mn t6 t2
  let t22 := mx t14 t18
  let t23 := mn t14 t18
  let t24 := mx t16 t20
  let t25 := mn t16 t20
  let t26 := mx t22 t24
  let t27 := mn t22 t24
  let t28 := mx t23 t25
  let t29 := mn t23 t25
  let t30 := mx t15 t19
  let t31 := mn t15 t19
  let t32 := mx t17 t21
  let t33 := mn t17 t21
  let t34 := mx t30 t32
  let t35 := mn t30 t32
  let t36 := mx t31 t33
  let t37 := mn t31 t33
  k t12 t13 t26 t27 t28 t29 t34 t35 t36 t37

/-- The same merge of ten descending values with ten descending values. -/
def merge10 (b0 b1 b2 b3 b4 b5 b6 b7 b8 b9 c0 c1 c2 c3 c4 c5 c6 c7 c8 c9 : α) (k : α → α → α → α → α → α → α → α → α → α → β) : β :=
  let t0 := mx b9 c0
  let t1 := mx b8 c1
  let t2 := mx b7 c2
  let t3 := mx b6 c3
  let t4 := mx b5 c4
  let t5 := mx b4 c5
  let t6 := mx b3 c6
  let t7 := mx b2 c7
  let t8 := mx b1 c8
  let t9 := mx b0 c9
  let t10 := mx t9 t1
  let t11 := mn t9 t1
  let t12 := mx t8 t0
  let t13 := mn t8 t0
  let t14 := mx t10 t12
  let t15 := mn t10 t12
  let t16 := mx t11 t5
  let t17 := mn t11 t5
  let t18 := mx t13 t4
  let t19 := mn t13 t4
  let t20 := mx t7 t3
  let t21 := mn t7 t3
  let t22 := mx t6 t2
  let t23 := mn t6 t2
  let t24 := mx t16 t20
  let t25 := mn t16 t20
  let t26 := mx t18 t22
  let t27 := mn t18 t22
  let t28 := mx t24 t26
  let t29 := mn t24 t26
  let t30 := mx t25 t27
  let t31 := mn t25 t27
  let t32 := mx t17 t21
  let t33 := mn t17 t21
  let t34 := mx t19 t23
  let t35 := mn t19 t23
  let t36 := mx t32 t34
  let t37 := mn t32 t34
  let t38 := mx t33 t35
  let t39 := mn t33 t35
  k t14 t15 t28 t29 t30 t31 t36 t37 t38 t39

/-- One round of the kernel: eight new values are sorted and merged into the ten kept. -/
def round (b0 b1 b2 b3 b4 b5 b6 b7 b8 b9 v0 v1 v2 v3 v4 v5 v6 v7 : α)
    (k : α → α → α → α → α → α → α → α → α → α → β) : β :=
  sort8 mx mn v0 v1 v2 v3 v4 v5 v6 v7 (merge8 mx mn b0 b1 b2 b3 b4 b5 b6 b7 b8 b9 · · · · · · · · k)

/-- Ten values as a list. -/
def list10 (b0 b1 b2 b3 b4 b5 b6 b7 b8 b9 : α) : List α := [b0, b1, b2, b3, b4, b5, b6, b7, b8, b9]

/-- Eight values as a list. -/
def list8 (b0 b1 b2 b3 b4 b5 b6 b7 : α) : List α := [b0, b1, b2, b3, b4, b5, b6, b7]

end defs

section maps

variable {α β γ : Type*} {mx mn : α → α → α} {mx' mn' : β → β → β} (h : α → β)

/-- A map that commutes with `max` and `min` commutes with the sorting network. -/
theorem sort8_map (hx : ∀ a b, mx' (h a) (h b) = h (mx a b)) (hn : ∀ a b, mn' (h a) (h b) = h (mn a b))
    (v0 v1 v2 v3 v4 v5 v6 v7 : α) (k : β → β → β → β → β → β → β → β → γ) :
    sort8 mx' mn' (h v0) (h v1) (h v2) (h v3) (h v4) (h v5) (h v6) (h v7) k
      = sort8 mx mn v0 v1 v2 v3 v4 v5 v6 v7 (fun a b c d e f g i => k (h a) (h b) (h c) (h d) (h e) (h f) (h g) (h i)) := by
  simp only [sort8, hx, hn]

/-- The same for the merge with eight values. -/
theorem merge8_map (hx : ∀ a b, mx' (h a) (h b) = h (mx a b)) (hn : ∀ a b, mn' (h a) (h b) = h (mn a b))
    (b0 b1 b2 b3 b4 b5 b6 b7 b8 b9 v0 v1 v2 v3 v4 v5 v6 v7 : α) (k : β → β → β → β → β → β → β → β → β → β → γ) :
    merge8 mx' mn' (h b0) (h b1) (h b2) (h b3) (h b4) (h b5) (h b6) (h b7) (h b8) (h b9)
        (h v0) (h v1) (h v2) (h v3) (h v4) (h v5) (h v6) (h v7) k
      = merge8 mx mn b0 b1 b2 b3 b4 b5 b6 b7 b8 b9 v0 v1 v2 v3 v4 v5 v6 v7
          (fun a b c d e f g i j l => k (h a) (h b) (h c) (h d) (h e) (h f) (h g) (h i) (h j) (h l)) := by
  simp only [merge8, hx, hn]

/-- The same for the merge with ten values. -/
theorem merge10_map (hx : ∀ a b, mx' (h a) (h b) = h (mx a b)) (hn : ∀ a b, mn' (h a) (h b) = h (mn a b))
    (b0 b1 b2 b3 b4 b5 b6 b7 b8 b9 v0 v1 v2 v3 v4 v5 v6 v7 v8 v9 : α)
    (k : β → β → β → β → β → β → β → β → β → β → γ) :
    merge10 mx' mn' (h b0) (h b1) (h b2) (h b3) (h b4) (h b5) (h b6) (h b7) (h b8) (h b9)
        (h v0) (h v1) (h v2) (h v3) (h v4) (h v5) (h v6) (h v7) (h v8) (h v9) k
      = merge10 mx mn b0 b1 b2 b3 b4 b5 b6 b7 b8 b9 v0 v1 v2 v3 v4 v5 v6 v7 v8 v9
          (fun a b c d e f g i j l => k (h a) (h b) (h c) (h d) (h e) (h f) (h g) (h i) (h j) (h l)) := by
  simp only [merge10, hx, hn]

/-- A map of the results of the sorting network goes inside. -/
theorem sort8_out (f : β → γ) (v0 v1 v2 v3 v4 v5 v6 v7 : α) (k : α → α → α → α → α → α → α → α → β) :
    f (sort8 mx mn v0 v1 v2 v3 v4 v5 v6 v7 k)
      = sort8 mx mn v0 v1 v2 v3 v4 v5 v6 v7 (fun a b c d e g i j => f (k a b c d e g i j)) := rfl

/-- A map of the results of the merge with eight values goes inside. -/
theorem merge8_out (f : β → γ) (b0 b1 b2 b3 b4 b5 b6 b7 b8 b9 v0 v1 v2 v3 v4 v5 v6 v7 : α)
    (k : α → α → α → α → α → α → α → α → α → α → β) :
    f (merge8 mx mn b0 b1 b2 b3 b4 b5 b6 b7 b8 b9 v0 v1 v2 v3 v4 v5 v6 v7 k)
      = merge8 mx mn b0 b1 b2 b3 b4 b5 b6 b7 b8 b9 v0 v1 v2 v3 v4 v5 v6 v7
          (fun a b c d e g i j l m => f (k a b c d e g i j l m)) := rfl

/-- A map of the results of the merge with ten values goes inside. -/
theorem merge10_out (f : β → γ) (b0 b1 b2 b3 b4 b5 b6 b7 b8 b9 v0 v1 v2 v3 v4 v5 v6 v7 v8 v9 : α)
    (k : α → α → α → α → α → α → α → α → α → α → β) :
    f (merge10 mx mn b0 b1 b2 b3 b4 b5 b6 b7 b8 b9 v0 v1 v2 v3 v4 v5 v6 v7 v8 v9 k)
      = merge10 mx mn b0 b1 b2 b3 b4 b5 b6 b7 b8 b9 v0 v1 v2 v3 v4 v5 v6 v7 v8 v9
          (fun a b c d e g i j l m => f (k a b c d e g i j l m)) := rfl

end maps

section top

variable {α : Type*} [LinearOrder α]

/-- Two lists of the same length agree when all their threshold images agree. -/
theorem eq_of_map_threshold : ∀ {l₁ l₂ : List α}, (∀ t : α, l₁.map (fun x => decide (t ≤ x)) = l₂.map (fun x => decide (t ≤ x))) → l₁ = l₂
  | [], [], _ => rfl
  | [], b :: l, h => by have := h b; simp at this
  | a :: l, [], h => by have := h a; simp at this
  | a :: l₁, b :: l₂, h => by
    have h1 : a = b := by
      apply le_antisymm
      · have := h a; simp only [List.map_cons, List.cons.injEq, le_refl, decide_true] at this
        exact of_decide_eq_true this.1.symm
      · have := h b; simp only [List.map_cons, List.cons.injEq, le_refl, decide_true] at this
        exact of_decide_eq_true this.1
    have h2 : l₁ = l₂ := eq_of_map_threshold fun t => by
      have := h t; simp only [List.map_cons, List.cons.injEq] at this; exact this.2
    rw [h1, h2]

/-- A monotone map of the `k` greatest gives the `k` greatest of the images. -/
theorem map_topList {β : Type*} [LinearOrder β] (f : α → β) (hf : Monotone f) (k : Nat) (l : List α) :
    (topList k l).map f = topList k (l.map f) := by
  unfold topList
  rw [List.map_take]
  congr 1
  refine eq_of_perm_of_descending (((List.perm_insertionSort _ l).map f).trans (List.perm_insertionSort _ _).symm) ?_
    (List.pairwise_insertionSort _ _)
  exact List.Pairwise.map f (fun a b hab => hf hab) (List.pairwise_insertionSort (· ≥ ·) l)

/-- The threshold at `t`. -/
def thr (t x : α) : Bool := decide (t ≤ x)

/-- A threshold is monotone. -/
theorem thr_mono (t : α) : Monotone (thr t) := fun x y hxy => by
  unfold thr
  by_cases h : t ≤ x
  · rw [decide_eq_true h, decide_eq_true (h.trans hxy)]
  · rw [decide_eq_false h]; exact Bool.false_le _

/-- A threshold turns `max` into `or`. -/
theorem thr_max (t a b : α) : (thr t a || thr t b) = thr t (max a b) := by
  unfold thr; rw [← Bool.decide_or]; simp only [le_max_iff]
/-- A threshold turns `min` into `and`. -/
theorem thr_min (t a b : α) : (thr t a && thr t b) = thr t (min a b) := by
  unfold thr; rw [← Bool.decide_and]; simp only [le_min_iff]

/-- The `k` greatest of a list of Booleans: as many `true` as there are, at most `k`, then `false`. -/
theorem topList_bool (k : Nat) (l : List Bool) :
    topList k l = (List.replicate (l.count true) true ++ List.replicate (l.count false) false).take k := by
  unfold topList
  congr 1
  refine eq_of_perm_of_descending ?_ (List.pairwise_insertionSort _ _) ?_
  · refine (List.perm_insertionSort _ l).trans (List.perm_iff_count.mpr fun a => ?_)
    cases a <;> simp [List.count_replicate]
  · refine List.pairwise_append.mpr ⟨List.pairwise_replicate.mpr (Or.inr le_rfl), List.pairwise_replicate.mpr (Or.inr le_rfl), ?_⟩
    intro a ha b hb
    rw [List.eq_of_mem_replicate ha, List.eq_of_mem_replicate hb]
    exact Bool.false_le _

/-- What a list of Booleans is sorted to, as a list that computes. -/
def boolTop (k : Nat) (l : List Bool) : List Bool :=
  (List.replicate (l.count true) true ++ List.replicate (l.count false) false).take k

/-- The sorting network on Booleans. -/
theorem sort8_bool : ∀ v0 v1 v2 v3 v4 v5 v6 v7 : Bool,
    sort8 or and v0 v1 v2 v3 v4 v5 v6 v7 list8 = boolTop 8 [v0, v1, v2, v3, v4, v5, v6, v7] := by
  decide +kernel

/-- The sorting network leaves its eight values in descending order. -/
theorem sort8_eq_topList (v0 v1 v2 v3 v4 v5 v6 v7 : α) :
    sort8 max min v0 v1 v2 v3 v4 v5 v6 v7 list8 = topList 8 [v0, v1, v2, v3, v4, v5, v6, v7] := by
  refine eq_of_map_threshold fun t => ?_
  have e := sort8_bool (thr t v0) (thr t v1) (thr t v2) (thr t v3) (thr t v4) (thr t v5) (thr t v6) (thr t v7)
  rw [sort8_map (thr t) (thr_max t) (thr_min t)] at e
  rw [show (fun x => decide (t ≤ x)) = thr t from rfl, map_topList (thr t) (thr_mono t), sort8_out (List.map (thr t)), topList_bool]
  exact e

/-- Ten descending Booleans are `i < p` at place `i`, for some `p`. -/
theorem bool_desc10 : ∀ b0 b1 b2 b3 b4 b5 b6 b7 b8 b9 : Bool,
    ((!b1 || b0) && (!b2 || b1) && (!b3 || b2) && (!b4 || b3) && (!b5 || b4) && (!b6 || b5) && (!b7 || b6) && (!b8 || b7)
      && (!b9 || b8)) = true →
    ∃ p : Fin 11, list10 b0 b1 b2 b3 b4 b5 b6 b7 b8 b9
      = list10 (0 < p.val : Bool) (1 < p.val : Bool) (2 < p.val : Bool) (3 < p.val : Bool) (4 < p.val : Bool)
          (5 < p.val : Bool) (6 < p.val : Bool) (7 < p.val : Bool) (8 < p.val : Bool) (9 < p.val : Bool) := by
  decide +kernel

/-- Eight descending Booleans are `i < p` at place `i`, for some `p`. -/
theorem bool_desc8 : ∀ b0 b1 b2 b3 b4 b5 b6 b7 : Bool,
    ((!b1 || b0) && (!b2 || b1) && (!b3 || b2) && (!b4 || b3) && (!b5 || b4) && (!b6 || b5) && (!b7 || b6)) = true →
    ∃ p : Fin 9, list8 b0 b1 b2 b3 b4 b5 b6 b7
      = list8 (0 < p.val : Bool) (1 < p.val : Bool) (2 < p.val : Bool) (3 < p.val : Bool) (4 < p.val : Bool)
          (5 < p.val : Bool) (6 < p.val : Bool) (7 < p.val : Bool) := by
  decide +kernel

/-- The merge with eight on descending Booleans. -/
theorem merge8_bool : ∀ (p : Fin 11) (q : Fin 9),
    merge8 or and (0 < p.val : Bool) (1 < p.val : Bool) (2 < p.val : Bool) (3 < p.val : Bool) (4 < p.val : Bool)
          (5 < p.val : Bool) (6 < p.val : Bool) (7 < p.val : Bool) (8 < p.val : Bool) (9 < p.val : Bool)
          (0 < q.val : Bool) (1 < q.val : Bool) (2 < q.val : Bool) (3 < q.val : Bool) (4 < q.val : Bool)
          (5 < q.val : Bool) (6 < q.val : Bool) (7 < q.val : Bool) list10
      = boolTop 10 (list10 (0 < p.val : Bool) (1 < p.val : Bool) (2 < p.val : Bool) (3 < p.val : Bool) (4 < p.val : Bool)
          (5 < p.val : Bool) (6 < p.val : Bool) (7 < p.val : Bool) (8 < p.val : Bool) (9 < p.val : Bool)
          ++ list8 (0 < q.val : Bool) (1 < q.val : Bool) (2 < q.val : Bool) (3 < q.val : Bool) (4 < q.val : Bool)
          (5 < q.val : Bool) (6 < q.val : Bool) (7 < q.val : Bool)) := by
  decide +kernel

/-- The merge with ten on descending Booleans. -/
theorem merge10_bool : ∀ (p q : Fin 11),
    merge10 or and (0 < p.val : Bool) (1 < p.val : Bool) (2 < p.val : Bool) (3 < p.val : Bool) (4 < p.val : Bool)
          (5 < p.val : Bool) (6 < p.val : Bool) (7 < p.val : Bool) (8 < p.val : Bool) (9 < p.val : Bool)
          (0 < q.val : Bool) (1 < q.val : Bool) (2 < q.val : Bool) (3 < q.val : Bool) (4 < q.val : Bool)
          (5 < q.val : Bool) (6 < q.val : Bool) (7 < q.val : Bool) (8 < q.val : Bool) (9 < q.val : Bool) list10
      = boolTop 10 (list10 (0 < p.val : Bool) (1 < p.val : Bool) (2 < p.val : Bool) (3 < p.val : Bool) (4 < p.val : Bool)
          (5 < p.val : Bool) (6 < p.val : Bool) (7 < p.val : Bool) (8 < p.val : Bool) (9 < p.val : Bool)
          ++ list10 (0 < q.val : Bool) (1 < q.val : Bool) (2 < q.val : Bool) (3 < q.val : Bool) (4 < q.val : Bool)
          (5 < q.val : Bool) (6 < q.val : Bool) (7 < q.val : Bool) (8 < q.val : Bool) (9 < q.val : Bool)) := by
  decide +kernel

/-- A threshold of two ordered values. -/
theorem thr_imp (t : α) {a b : α} (h : b ≤ a) : (!thr t b || thr t a) = true := by
  unfold thr
  by_cases hb : t ≤ b
  · rw [decide_eq_true hb, decide_eq_true (hb.trans h)]; rfl
  · rw [decide_eq_false hb]; rfl

/-- The thresholds of ten descending values. -/
theorem thr_desc10 (t : α) {b0 b1 b2 b3 b4 b5 b6 b7 b8 b9 : α} (hb : (list10 b0 b1 b2 b3 b4 b5 b6 b7 b8 b9).Pairwise (· ≥ ·)) :
    ∃ p : Fin 11, thr t b0 = (0 < p.val : Bool) ∧ thr t b1 = (1 < p.val : Bool) ∧ thr t b2 = (2 < p.val : Bool)
      ∧ thr t b3 = (3 < p.val : Bool) ∧ thr t b4 = (4 < p.val : Bool) ∧ thr t b5 = (5 < p.val : Bool)
      ∧ thr t b6 = (6 < p.val : Bool) ∧ thr t b7 = (7 < p.val : Bool) ∧ thr t b8 = (8 < p.val : Bool)
      ∧ thr t b9 = (9 < p.val : Bool) := by
  obtain ⟨p, hp⟩ := bool_desc10 (thr t b0) (thr t b1) (thr t b2) (thr t b3) (thr t b4) (thr t b5) (thr t b6) (thr t b7)
    (thr t b8) (thr t b9) (by
      simp only [list10, List.pairwise_cons, List.mem_cons, forall_eq_or_imp] at hb
      simp only [Bool.and_eq_true]
      refine ⟨⟨⟨⟨⟨⟨⟨⟨?_, ?_⟩, ?_⟩, ?_⟩, ?_⟩, ?_⟩, ?_⟩, ?_⟩, ?_⟩ <;> apply thr_imp <;> tauto)
  refine ⟨p, ?_⟩
  simpa only [list10, List.cons.injEq, and_true] using hp

/-- The thresholds of eight descending values. -/
theorem thr_desc8 (t : α) {b0 b1 b2 b3 b4 b5 b6 b7 : α} (hb : (list8 b0 b1 b2 b3 b4 b5 b6 b7).Pairwise (· ≥ ·)) :
    ∃ p : Fin 9, thr t b0 = (0 < p.val : Bool) ∧ thr t b1 = (1 < p.val : Bool) ∧ thr t b2 = (2 < p.val : Bool)
      ∧ thr t b3 = (3 < p.val : Bool) ∧ thr t b4 = (4 < p.val : Bool) ∧ thr t b5 = (5 < p.val : Bool)
      ∧ thr t b6 = (6 < p.val : Bool) ∧ thr t b7 = (7 < p.val : Bool) := by
  obtain ⟨p, hp⟩ := bool_desc8 (thr t b0) (thr t b1) (thr t b2) (thr t b3) (thr t b4) (thr t b5) (thr t b6) (thr t b7) (by
      simp only [list8, List.pairwise_cons, List.mem_cons, forall_eq_or_imp] at hb
      simp only [Bool.and_eq_true]
      refine ⟨⟨⟨⟨⟨⟨?_, ?_⟩, ?_⟩, ?_⟩, ?_⟩, ?_⟩, ?_⟩ <;> apply thr_imp <;> tauto)
  refine ⟨p, ?_⟩
  simpa only [list8, List.cons.injEq, and_true] using hp

/-- The merge of ten descending values with eight descending values leaves the ten greatest, descending. -/
theorem merge8_eq_topList {b0 b1 b2 b3 b4 b5 b6 b7 b8 b9 v0 v1 v2 v3 v4 v5 v6 v7 : α}
    (hb : (list10 b0 b1 b2 b3 b4 b5 b6 b7 b8 b9).Pairwise (· ≥ ·)) (hv : (list8 v0 v1 v2 v3 v4 v5 v6 v7).Pairwise (· ≥ ·)) :
    merge8 max min b0 b1 b2 b3 b4 b5 b6 b7 b8 b9 v0 v1 v2 v3 v4 v5 v6 v7 list10
      = topList 10 (list10 b0 b1 b2 b3 b4 b5 b6 b7 b8 b9 ++ list8 v0 v1 v2 v3 v4 v5 v6 v7) := by
  refine eq_of_map_threshold fun t => ?_
  rw [show (fun x => decide (t ≤ x)) = thr t from rfl, map_topList (thr t) (thr_mono t), merge8_out (List.map (thr t)), topList_bool,
    List.map_append]
  obtain ⟨p, h0, h1, h2, h3, h4, h5, h6, h7, h8, h9⟩ := thr_desc10 t hb
  obtain ⟨q, g0, g1, g2, g3, g4, g5, g6, g7⟩ := thr_desc8 t hv
  have e := merge8_bool p q
  rw [← h0, ← h1, ← h2, ← h3, ← h4, ← h5, ← h6, ← h7, ← h8, ← h9, ← g0, ← g1, ← g2, ← g3, ← g4, ← g5, ← g6, ← g7,
    merge8_map (thr t) (thr_max t) (thr_min t)] at e
  exact e

/-- The merge of ten descending values with ten descending values leaves the ten greatest, descending. -/
theorem merge10_eq_topList {b0 b1 b2 b3 b4 b5 b6 b7 b8 b9 v0 v1 v2 v3 v4 v5 v6 v7 v8 v9 : α}
    (hb : (list10 b0 b1 b2 b3 b4 b5 b6 b7 b8 b9).Pairwise (· ≥ ·)) (hv : (list10 v0 v1 v2 v3 v4 v5 v6 v7 v8 v9).Pairwise (· ≥ ·)) :
    merge10 max min b0 b1 b2 b3 b4 b5 b6 b7 b8 b9 v0 v1 v2 v3 v4 v5 v6 v7 v8 v9 list10
      = topList 10 (list10 b0 b1 b2 b3 b4 b5 b6 b7 b8 b9 ++ list10 v0 v1 v2 v3 v4 v5 v6 v7 v8 v9) := by
  refine eq_of_map_threshold fun t => ?_
  rw [show (fun x => decide (t ≤ x)) = thr t from rfl, map_topList (thr t) (thr_mono t), merge10_out (List.map (thr t)), topList_bool,
    List.map_append]
  obtain ⟨p, h0, h1, h2, h3, h4, h5, h6, h7, h8, h9⟩ := thr_desc10 t hb
  obtain ⟨q, g0, g1, g2, g3, g4, g5, g6, g7, g8, g9⟩ := thr_desc10 t hv
  have e := merge10_bool p q
  rw [← h0, ← h1, ← h2, ← h3, ← h4, ← h5, ← h6, ← h7, ← h8, ← h9, ← g0, ← g1, ← g2, ← g3, ← g4, ← g5, ← g6, ← g7, ← g8, ← g9,
    merge10_map (thr t) (thr_max t) (thr_min t)] at e
  exact e

end top

end Cert.TopNet
-- ==== Proof.Body.lean ====
/- What the kernel's body stores into the carried ten-best lists at one grid point, written once for every lane group and place:
   eight rounds of the network of TopNet over the block's scaled scores (`statePieces`). -/
module

public import proofs.«01_k».proof.Proof.TopNet
public import proofs.«01_k».proof.Proof.Gen.KernelIdeal.Frame

@[expose] public section

noncomputable section

namespace Cert.Body

open Idealize.ShloMosaic Idealize.ShloMosaic.TcCoe Cert.KernelIdeal Cert.KernelIdeal.Gen Cert.TopNet

variable {F : FTy → Type} [FloatOps F]

/-- Ten values handed on. -/
abbrev T10 (α β : Type) : Type := α → α → α → α → α → α → α → α → α → α → β

/-- Round `r` of the kernel over sixty-four values, handed on to `k`. -/
def roundV {α β : Type} (mx mn : α → α → α) (V : ℕ → α) (r : ℕ) (k : T10 α β) : T10 α β :=
  fun b0 b1 b2 b3 b4 b5 b6 b7 b8 b9 =>
    round mx mn b0 b1 b2 b3 b4 b5 b6 b7 b8 b9 (V (8 * r)) (V (8 * r + 1)) (V (8 * r + 2)) (V (8 * r + 3)) (V (8 * r + 4))
      (V (8 * r + 5)) (V (8 * r + 6)) (V (8 * r + 7)) k

/-- The eight rounds of a block. -/
def rounds {α β : Type} (mx mn : α → α → α) (V : ℕ → α) (k : T10 α β) : T10 α β :=
  roundV mx mn V 0 (roundV mx mn V 1 (roundV mx mn V 2 (roundV mx mn V 3 (roundV mx mn V 4 (roundV mx mn V 5
    (roundV mx mn V 6 (roundV mx mn V 7 k)))))))

/-- The place of list entry `k` of lane group `g` lies inside the state. -/
theorem inb_state (g k : ℕ) (h : g < 8 ∧ k < 10) :
    ∀ a, (![g, k, 0, 0] : Fin 4 → ℕ) a + S1x1x8x128.size a ≤ S8x10x8x128.size a := by
  intro a; fin_cases a <;> simp [Shape.size] <;> omega

/-- The place of the ten-best lists that holds place `k` of lane group `g`. -/
def rectSt (g k : ℕ) (h : g < 8 ∧ k < 10) : Rect S8x10x8x128 := Rect.unit ![g, k, 0, 0] S1x1x8x128.size (inb_state g k h)

/-- A stored place. -/
def pieceSt (g k : ℕ) (h : g < 8 ∧ k < 10) (b : FVec F S8x128 .f32) : View.Piece (Elt F) S8x10x8x128 .f32 :=
  ⟨rectSt g k h, shapeCast S1x1x8x128 b shapeCasts_S8x128_S1x1x8x128⟩

/-- The ten stores of lane group `g`, last first. -/
def groupPieces (V : ℕ → FVec F S8x128 .f32) (B : ℕ → FVec F S8x128 .f32) (g : ℕ) (h : g < 8) :
    List (View.Piece (Elt F) S8x10x8x128 .f32) :=
  rounds maximumf minimumf V (fun b0 b1 b2 b3 b4 b5 b6 b7 b8 b9 =>
    [pieceSt g 9 ⟨h, by decide⟩ b9, pieceSt g 8 ⟨h, by decide⟩ b8, pieceSt g 7 ⟨h, by decide⟩ b7, pieceSt g 6 ⟨h, by decide⟩ b6,
     pieceSt g 5 ⟨h, by decide⟩ b5, pieceSt g 4 ⟨h, by decide⟩ b4, pieceSt g 3 ⟨h, by decide⟩ b3, pieceSt g 2 ⟨h, by decide⟩ b2,
     pieceSt g 1 ⟨h, by decide⟩ b1, pieceSt g 0 ⟨h, by decide⟩ b0])
    (B 0) (B 1) (B 2) (B 3) (B 4) (B 5) (B 6) (B 7) (B 8) (B 9)

/-- Tile `n` of lane group `g` lies inside the scores. -/
theorem inb_scores (n g : ℕ) :
    ∀ a, (![8 * (n % 64), 128 * (g % 8)] : Fin 2 → ℕ) a + S8x128.size a ≤ S512x1024.size a := by
  have h1 := Nat.mod_lt n (by decide : 64 > 0)
  have h2 := Nat.mod_lt g (by decide : 8 > 0)
  intro a; fin_cases a <;> simp [Shape.size] <;> omega

/-- Tile `n` lies inside the spread scales. -/
theorem slices_scale (n : ℕ) : S512x128.Slices ![8 * (n % 64), 0] S8x128 := by
  have h1 := Nat.mod_lt n (by decide : 64 > 0)
  refine ⟨rfl, fun a => ?_⟩
  fin_cases a <;> simp [Shape.size] <;> omega

section point

variable (arg1 : Memref sig .tc .vmem S3072x1024 .bf16) (harg1 : arg1.IsWhole) (arg2 : Memref sig .tc .vmem S512x1536 .i8)
  (harg2 : arg2.IsWhole) (arg3 : Memref sig .tc .vmem S1x1x512 .f32) (harg3 : arg3.IsWhole)
  (arg5 : Memref sig .tc .vmem S512x3072 .bf16) (arg6 : Memref sig .tc .vmem S512x1024 .f32)
  (x0 : Vec F S3072x1024 .bf16) (x1 : Vec F S512x1536 .i8) (x2 : Vec F S1x1x512 .f32)

/-- The unpacked codes of the block, low halves then high halves, as stored. -/
def codesP : List (View.Piece (Elt F) S512x3072 .bf16) :=
  [⟨Rect.unit ![0, 1536] S512x1536.size inb_S512x3072_S512x1536_0_1536,
      k0_pay1053 (View.readAt (Elt F) arg2.view (Rect.unit ![0, 0] S512x1536.size inb_S512x1536_S512x1536_0_0).toLoadRect
          (harg2.unread x1))⟩,
    ⟨Rect.unit ![0, 0] S512x1536.size inb_S512x3072_S512x1536_0_0,
      k0_pay1052 (View.readAt (Elt F) arg2.view (Rect.unit ![0, 0] S512x1536.size inb_S512x1536_S512x1536_0_0).toLoadRect
          (harg2.unread x1))⟩]

/-- The block's scores before scaling, as stored. -/
def scoresP : List (View.Piece (Elt F) S512x1024 .f32) :=
  [⟨Rect.unit ![0, 0] S512x1024.size inb_S512x1024_S512x1024_0_0,
      k0_pay1054 (arg5.view.readCov (codesP arg2 harg2 x1)
          (Rect.unit ![0, 0] S512x3072.size inb_S512x3072_S512x3072_0_0).toLoadRect)
        (View.readAt (Elt F) arg1.view (Rect.unit ![0, 0] S3072x1024.size inb_S3072x1024_S3072x1024_0_0).toLoadRect
          (harg1.unread x0))⟩]

/-- The block's scales as the kernel spreads them. -/
def scaleP :  FVec F S512x128 .f32 :=
  k0_pay1056 (k0_pay1055 (View.readAt (Elt F) arg3.view
      (Rect.unit (s := S1x1x512) ![0, 0, 0] S1x1x128.size inb_S1x1x512_S1x1x128_0_0_0).toLoadRect (harg3.unread x2)))
    (Scalar.ofBits .f32 0x3D800000#32)
    (View.readAt (Elt F) arg3.view (Rect.unit (s := S1x1x512) ![0, 0, 128] S1x1x128.size inb_S1x1x512_S1x1x128_0_0_128).toLoadRect
      (harg3.unread x2))
    (View.readAt (Elt F) arg3.view (Rect.unit (s := S1x1x512) ![0, 0, 256] S1x1x128.size inb_S1x1x512_S1x1x128_0_0_256).toLoadRect
      (harg3.unread x2))
    (View.readAt (Elt F) arg3.view (Rect.unit (s := S1x1x512) ![0, 0, 384] S1x1x128.size inb_S1x1x512_S1x1x128_0_0_384).toLoadRect
      (harg3.unread x2))

/-- The scaled scores of sublane tile `n` and lane group `g`. -/
def valP (g n : ℕ) : FVec F S8x128 .f32 :=
  mulf (arg6.view.readCov (scoresP arg1 harg1 arg2 harg2 arg5 x0 x1)
      (Rect.unit (s := S512x1024) ![8 * (n % 64), 128 * (g % 8)] S8x128.size (inb_scores n g)).toLoadRect)
    (extractStridedSlice S8x128 ![8 * (n % 64), 0] (scaleP arg3 harg3 x2) (slices_scale n))

end point

/-- Place `k` of lane group `g` of lists read from a buffer. -/
def loadSt (arg7 : Memref sig .tc .vmem S8x10x8x128 .f32) (harg7 : arg7.IsWhole) (xs : Vec F S8x10x8x128 .f32) (g k : ℕ)
    (h : g < 8 ∧ k < 10) : FVec F S8x128 .f32 :=
  shapeCast S8x128 (View.readAt (Elt F) arg7.view (rectSt g k h).toLoadRect (harg7.unread xs)) shapeCasts_S1x1x8x128_S8x128

/-- Place `k` of lane group `g` of lists read back from stores. -/
def loadCov (arg7 : Memref sig .tc .vmem S8x10x8x128 .f32) (L : List (View.Piece (Elt F) S8x10x8x128 .f32)) (g k : ℕ)
    (h : g < 8 ∧ k < 10) : FVec F S8x128 .f32 :=
  shapeCast S8x128 (arg7.view.readCov L (rectSt g k h).toLoadRect) shapeCasts_S1x1x8x128_S8x128

/-- The stores of the first `n` lane groups, last first, the lists coming from a buffer. -/
def statesLd (arg7 : Memref sig .tc .vmem S8x10x8x128 .f32) (harg7 : arg7.IsWhole) (xs : Vec F S8x10x8x128 .f32)
    (V : ℕ → ℕ → FVec F S8x128 .f32) : (n : ℕ) → n ≤ 8 → List (View.Piece (Elt F) S8x10x8x128 .f32)
  | 0, _ => []
  | n + 1, h =>
    groupPieces (V n) (fun k => loadSt arg7 harg7 xs n (k % 10) ⟨h, Nat.mod_lt _ (by decide)⟩) n h
      ++ statesLd arg7 harg7 xs V n (Nat.le_of_succ_le h)

/-- The stores of the first `n` lane groups, last first, the lists coming from the stores before them. -/
def statesCov (arg7 : Memref sig .tc .vmem S8x10x8x128 .f32) (L : List (View.Piece (Elt F) S8x10x8x128 .f32))
    (V : ℕ → ℕ → FVec F S8x128 .f32) : (n : ℕ) → n ≤ 8 → List (View.Piece (Elt F) S8x10x8x128 .f32)
  | 0, _ => L
  | n + 1, h =>
    groupPieces (V n)
        (fun k => loadCov arg7 (statesCov arg7 L V n (Nat.le_of_succ_le h)) n (k % 10) ⟨h, Nat.mod_lt _ (by decide)⟩) n h
      ++ statesCov arg7 L V n (Nat.le_of_succ_le h)

/-- The first store of all: minus infinity everywhere. -/
def fillP : List (View.Piece (Elt F) S8x10x8x128 .f32) :=
  [⟨Rect.unit ![0, 0, 0, 0] S8x10x8x128.size inb_S8x10x8x128_S8x10x8x128_0_0_0_0, k0_pay1050⟩]

/-- Ten tiles merged with themselves turned by `n` sublanes. -/
def turned {β : Type} (n : BitVec 32) (k : T10 (FVec F S8x128 .f32) β) : T10 (FVec F S8x128 .f32) β :=
  fun b0 b1 b2 b3 b4 b5 b6 b7 b8 b9 =>
    merge10 maximumf minimumf b0 b1 b2 b3 b4 b5 b6 b7 b8 b9 (dynamicRotate 0 n none b0 rotates_S8x128_d0)
      (dynamicRotate 0 n none b1 rotates_S8x128_d0) (dynamicRotate 0 n none b2 rotates_S8x128_d0)
      (dynamicRotate 0 n none b3 rotates_S8x128_d0) (dynamicRotate 0 n none b4 rotates_S8x128_d0)
      (dynamicRotate 0 n none b5 rotates_S8x128_d0) (dynamicRotate 0 n none b6 rotates_S8x128_d0)
      (dynamicRotate 0 n none b7 rotates_S8x128_d0) (dynamicRotate 0 n none b8 rotates_S8x128_d0)
      (dynamicRotate 0 n none b9 rotates_S8x128_d0) k

/-- `a` on sublane `k`, `b` on the others. -/
def onRow (k : BitVec 32) (a b : FVec F S8x128 .f32) : FVec F S8x128 .f32 :=
  select (cmpi .eq (iota .tc S8x128 32 [0] iota_S8x128_d0_w32) (broadcast S8x128 k)) a b

/-- Ten tiles laid out one a row, the rest zero, and turned over. -/
def layout : T10 (FVec F S8x128 .f32) (FVec F S128x128 .f32) := fun b0 b1 b2 b3 b4 b5 b6 b7 b8 b9 =>
  transpose S128x128 [1, 0]
    (concatenate S128x128 0
      [⟨S8x128, onRow 7#32 b7 (onRow 6#32 b6 (onRow 5#32 b5 (onRow 4#32 b4 (onRow 3#32 b3 (onRow 2#32 b2 (onRow 1#32 b1 b0))))))⟩,
       ⟨S8x128, onRow 1#32 b9 b8⟩,
       ⟨S112x128, broadcast S112x128 (Scalar.ofBits .f32 0x00000000#32 : F .f32)⟩]
      concatenates_S8x128_S8x128_S112x128_S128x128_d0)
    transposes_S128x128_p1_0_S128x128

/-- What the last grid point makes of the ten lists of a lane group. -/
def finalOut : T10 (FVec F S8x128 .f32) (FVec F S128x128 .f32) := turned 4#32 (turned 2#32 (turned 1#32 layout))

/-- The rows of lane group `g` lie inside the result. -/
theorem inb_out (g : ℕ) (h : g < 8) : ∀ a, (![128 * g, 0] : Fin 2 → ℕ) a + S128x128.size a ≤ S1024x128.size a := by
  intro a; fin_cases a <;> simp [Shape.size] <;> omega

/-- The stores of the last grid point into the result, last first. -/
def outP (B : ℕ → ℕ → FVec F S8x128 .f32) : (n : ℕ) → n ≤ 8 → List (View.Piece (Elt F) S1024x128 .f32)
  | 0, _ => []
  | n + 1, h =>
    ⟨Rect.unit (s := S1024x128) ![128 * n, 0] S128x128.size (inb_out n h),
      finalOut (B n 0) (B n 1) (B n 2) (B n 3) (B n 4) (B n 5) (B n 6) (B n 7) (B n 8) (B n 9)⟩
      :: outP B n (Nat.le_of_succ_le h)

section runs

variable (c : Dev nD) (i : grid0.Coords) (arg1 : Memref sig .tc .vmem S3072x1024 .bf16) (harg1 : arg1.IsWhole)
  (arg2 : Memref sig .tc .vmem S512x1536 .i8) (harg2 : arg2.IsWhole) (arg3 : Memref sig .tc .vmem S1x1x512 .f32)
  (harg3 : arg3.IsWhole) (arg4 : Memref sig .tc .vmem S1024x128 .f32) (harg4 : arg4.IsWhole)
  (arg5 : Memref sig .tc .vmem S512x3072 .bf16) (harg5 : arg5.IsWhole) (arg6 : Memref sig .tc .vmem S512x1024 .f32)
  (harg6 : arg6.IsWhole) (arg7 : Memref sig .tc .vmem S8x10x8x128 .f32) (harg7 : arg7.IsWhole)
  (x0 : Vec F S3072x1024 .bf16) (x1 : Vec F S512x1536 .i8) (x2 : Vec F S1x1x512 .f32)

/-- The stores of a middle point. -/
theorem run_B (hc0 : ¬cond0_0 i) (hc1 : ¬cond0_1 i) (xs2 : Vec F S8x10x8x128 .f32) :
    (kernelRun0_B c i arg1 harg1 arg2 harg2 arg3 harg3 arg4 harg4 arg5 harg5 arg6 harg6 arg7 harg7 hc0 hc1 x0 x1 x2 xs2).2.1
      = statesLd arg7 harg7 xs2 (valP arg1 harg1 arg2 harg2 arg3 harg3 arg5 arg6 x0 x1 x2) 8 (le_refl 8) := by
  unfold kernelRun0_B
  rfl

/-- The stores of the first point. -/
theorem run_A (hc0 : cond0_0 i) (hc1 : ¬cond0_1 i) :
    (kernelRun0_A c i arg1 harg1 arg2 harg2 arg3 harg3 arg4 harg4 arg5 harg5 arg6 harg6 arg7 harg7 hc0 hc1 x0 x1 x2).2.1
      = statesCov arg7 fillP (valP arg1 harg1 arg2 harg2 arg3 harg3 arg5 arg6 x0 x1 x2) 8 (le_refl 8) := by
  unfold kernelRun0_A
  rfl

/-- The stores of the last point into the lists. -/
theorem run_C (hc0 : ¬cond0_0 i) (hc1 : cond0_1 i) (xs2 : Vec F S8x10x8x128 .f32) :
    (kernelRun0_C c i arg1 harg1 arg2 harg2 arg3 harg3 arg4 harg4 arg5 harg5 arg6 harg6 arg7 harg7 hc0 hc1 x0 x1 x2 xs2).2.1
      = statesLd arg7 harg7 xs2 (valP arg1 harg1 arg2 harg2 arg3 harg3 arg5 arg6 x0 x1 x2) 8 (le_refl 8) := by
  unfold kernelRun0_C
  rfl

/-- The stores of the last point into the result. -/
theorem run_C_out (hc0 : ¬cond0_0 i) (hc1 : cond0_1 i) (xs2 : Vec F S8x10x8x128 .f32) :
    (kernelRun0_C c i arg1 harg1 arg2 harg2 arg3 harg3 arg4 harg4 arg5 harg5 arg6 harg6 arg7 harg7 hc0 hc1 x0 x1 x2 xs2).1
      = outP (fun g k => loadCov arg7
          (kernelRun0_C c i arg1 harg1 arg2 harg2 arg3 harg3 arg4 harg4 arg5 harg5 arg6 harg6 arg7 harg7 hc0 hc1 x0 x1 x2 xs2).2.1
          (g % 8) (k % 10) ⟨Nat.mod_lt _ (by decide), Nat.mod_lt _ (by decide)⟩) 8 (le_refl 8) := by
  unfold kernelRun0_C
  dsimp only
  rfl

end runs

end Cert.Body

end
-- ==== Proof.Words.lean ====
/- The two four-bit codes of a byte: what the kernel's masks over words of four bytes leave in each byte, and what the
   reference's integer arithmetic on one byte gives. -/
module

public import Idealize.ShloMosaic.Lib.BitcastFour
public import Idealize.ShloMosaic.PureOps

@[expose] public section

noncomputable section

namespace Cert.Words

open Idealize.ShloMosaic Idealize.ShloMosaic.ValueIdx

/-- The low four bits of a byte as a signed number. -/
def lo (b : BitVec 8) : ℤ := (b.extractLsb' 0 4).toInt

/-- The high four bits of a byte as a signed number. -/
def hi (b : BitVec 8) : ℤ := (b.extractLsb' 4 4).toInt

/-- The byte moved up by four is sixteen times its low code. -/
theorem lo_byte : ∀ b : BitVec 8, (b <<< 4).toInt = 16 * lo b := by decide +kernel

/-- The byte with its low half cleared is sixteen times its high code. -/
theorem hi_byte : ∀ b : BitVec 8, (b &&& 0xF0#8).toInt = 16 * hi b := by decide +kernel

/-- The reference's low code of a byte. -/
theorem lo_ref : ∀ b : BitVec 8,
    (IntOp.subi (IntOp.andi (b.setWidth 32) 15#32)
      (IntOp.muli 16#32 ((IntOp.cmpi .sge (IntOp.andi (b.setWidth 32) 15#32) 8#32).setWidth 32))).toInt = lo b := by
  decide +kernel

/-- The reference's high code of a byte. -/
theorem hi_ref : ∀ b : BitVec 8,
    (IntOp.subi (IntOp.shrsi .host (b.setWidth 32) 4#32)
      (IntOp.muli 16#32 ((IntOp.cmpi .sge (IntOp.shrsi .host (b.setWidth 32) 4#32) 8#32).setWidth 32))).toInt = hi b := by
  decide +kernel

/-- Bits of the mask that keeps the upper half of every byte. -/
theorem mask_bit : ∀ q : Fin 32, (4042322160#32 : BitVec 32).getLsbD q.val = decide (4 ≤ q.val % 8) := by decide +kernel

/-- Words of thirty-two bits read as bytes: bit `i` of byte row `p` is bit `8 (p % 4) + i` of word row `p / 4`. -/
theorem bitcast_32_8_bit {R r n : ℕ} (x : (⟨2, ![r, n]⟩ : Shape).Idx → BitVec 32)
    (h : (⟨2, ![r, n]⟩ : Shape).Bitcasts 32 ⟨2, ![R, n]⟩ 8) (p : Fin R) (l : Fin n) (i : ℕ) (hi : i < 8) (a : Fin r)
    (ha : a.val = p.val / 4) :
    (bitcast ⟨2, ![R, n]⟩ 8 x h (ix2 p l)).getLsbD i = (x (ix2 a l)).getLsbD (8 * (p.val % 4) + i) := by
  rw [bitcast_getLsbD x h _ i hi (by decide)]
  have er : (⟨2, ![R, n]⟩ : Shape).row (ix2 p l) = p.val := rfl
  congr 1
  · congr 1
    funext c
    match c with
    | ⟨0, _⟩ => exact Fin.ext ((h.srcIdx_row _ _ _ ⟨0, Nat.zero_lt_two⟩ rfl).trans (by rw [er, ha]; omega))
    | ⟨1, _⟩ => exact Fin.ext (h.srcIdx_other _ _ _ ⟨1, Nat.one_lt_two⟩ (by show ¬ 1 + 2 = 2; omega))
  · rw [er]; omega

/-- Words of four bytes moved up by four bits and masked: each byte is the source byte moved up by four. -/
theorem lo_words {R r n : ℕ} (x : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (hR : R = 4 * r) (p : Fin R) (l : Fin n) :
    bitcast ⟨2, ![R, n]⟩ 8 (andi (shli (bitcast ⟨2, ![r, n]⟩ 32 x h) (broadcast ⟨2, ![r, n]⟩ 4#32))
      (broadcast ⟨2, ![r, n]⟩ 4042322160#32)) h' (ix2 p l) = x (ix2 p l) <<< 4 := by
  apply BitVec.eq_of_getLsbD_eq
  intro i hi
  have hp := p.isLt
  rw [bitcast_32_8_bit _ h' p l i hi ⟨p.val / 4, by omega⟩ rfl]
  show (IntOp.andi (IntOp.shli _ (bitcast ⟨2, ![r, n]⟩ 32 x h (ix2 ⟨p.val / 4, _⟩ l)) 4#32) 4042322160#32).getLsbD _ = _
  have e : ∀ (u : _) (w : BitVec 32), IntOp.shli u w 4#32 = w <<< 4 := fun u w => rfl
  rw [e]
  unfold IntOp.andi
  rw [BitVec.getLsbD_and, BitVec.getLsbD_shiftLeft, BitVec.getLsbD_shiftLeft,
    mask_bit ⟨8 * (p.val % 4) + i, by omega⟩]
  by_cases h4 : i < 4
  · rw [decide_eq_false (show ¬ 4 ≤ (8 * (p.val % 4) + i) % 8 by omega), Bool.and_false]
    simp [h4]
  · have h5 : 4 ≤ (8 * (p.val % 4) + i) % 8 := by omega
    have h6 : ¬ (8 * (p.val % 4) + i < 4) := by omega
    rw [bitcast_8_32_getLsbD_ix2 x h ⟨p.val / 4, by omega⟩ l (8 * (p.val % 4) + i - 4) (by omega) p (by simp only; omega)]
    have h7 : (8 * (p.val % 4) + i - 4) % 8 = i - 4 := by omega
    have h8 : 8 * (p.val % 4) + i < 32 := by omega
    rw [decide_eq_true h5, Bool.and_true, h7]
    simp [h4, h6, h8, hi]

/-- Words of four bytes masked: each byte is the source byte with its low half cleared. -/
theorem hi_words {R r n : ℕ} (x : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (hR : R = 4 * r) (p : Fin R) (l : Fin n) :
    bitcast ⟨2, ![R, n]⟩ 8 (andi (bitcast ⟨2, ![r, n]⟩ 32 x h) (broadcast ⟨2, ![r, n]⟩ 4042322160#32)) h' (ix2 p l)
      = x (ix2 p l) &&& 0xF0#8 := by
  apply BitVec.eq_of_getLsbD_eq
  intro i hi
  have hp := p.isLt
  rw [bitcast_32_8_bit _ h' p l i hi ⟨p.val / 4, by omega⟩ rfl]
  show (IntOp.andi (bitcast ⟨2, ![r, n]⟩ 32 x h (ix2 ⟨p.val / 4, _⟩ l)) 4042322160#32).getLsbD _ = _
  unfold IntOp.andi
  rw [BitVec.getLsbD_and, BitVec.getLsbD_and, mask_bit ⟨8 * (p.val % 4) + i, by omega⟩,
    bitcast_8_32_getLsbD_ix2 x h ⟨p.val / 4, by omega⟩ l (8 * (p.val % 4) + i) (by omega) p (by simp only; omega)]
  have h7 : (8 * (p.val % 4) + i) % 8 = i := by omega
  have h9 : ∀ i : Fin 8, (0xF0#8 : BitVec 8).getLsbD i.val = decide (4 ≤ i.val) := by decide
  simp only [h7, h9 ⟨i, hi⟩]

end Cert.Words

end
-- ==== Proof.Score.lean ====
/- The scaled scores the kernel's body computes, read at an element of its input blocks. -/
module

public import proofs.«01_k».proof.Proof.Body
public import proofs.«01_k».proof.Proof.Words
public import Idealize.ShloMosaic.Lib.MatmulPlain
public import Idealize.ShloMosaic.Lib.Pipeline.Value

@[expose] public section

noncomputable section

namespace Cert.Score

open Idealize.ShloMosaic Idealize.ShloMosaic.TcCoe Idealize.ShloMosaic.ValueIdx Cert.KernelIdeal Cert.KernelIdeal.Gen Cert.Body
  Cert.Words
open scoped BigOperators

/-- The low codes as stored, sixteen times each code. -/
theorem pay_lo (x : Vec Ideal S512x1536 .i8) (p : Fin 512) (k : Fin 1536) :
    (k0_pay1052 x (ix2 p k) : EReal) = (((16 * lo (x (ix2 p k)) : ℤ) : ℝ) : EReal) := by
  unfold k0_pay1052 k0_pay1051
  simp only [shapeCast_self]
  refine (congrArg (fun b : BitVec 8 => ((b.toInt : ℝ) : EReal))
    (lo_words (R := 512) (r := 128) (n := 1536) x bitcasts_S512x1536_w8_S128x1536_w32 bitcasts_S128x1536_w32_S512x1536_w8
      (by decide) p k)).trans ?_
  simp only [lo_byte]

/-- The high codes as stored. -/
theorem pay_hi (x : Vec Ideal S512x1536 .i8) (p : Fin 512) (k : Fin 1536) :
    (k0_pay1053 x (ix2 p k) : EReal) = (((16 * hi (x (ix2 p k)) : ℤ) : ℝ) : EReal) := by
  unfold k0_pay1053 k0_pay1051
  simp only [shapeCast_self]
  refine (congrArg (fun b : BitVec 8 => ((b.toInt : ℝ) : EReal))
    (hi_words (R := 512) (r := 128) (n := 1536) x bitcasts_S512x1536_w8_S128x1536_w32 bitcasts_S128x1536_w32_S512x1536_w8
      (by decide) p k)).trans ?_
  simp only [hi_byte]

/-- The product of codes and activations, at an element. -/
theorem pay_scores (A : Vec Ideal S512x3072 .bf16) (B : Vec Ideal S3072x1024 .bf16) (i : Fin 512) (r : Fin 1024) :
    (k0_pay1054 A B (ix2 i r) : EReal) = ∑ d : Fin 3072, (A (ix2 i d) : EReal) * (B (ix2 d r) : EReal) := by
  unfold k0_pay1054
  simp only [shapeCast_self]
  refine (Ideal.matmul_plain_apply (M := 512) (K := 3072) (N := 1024) none A B _ i r).trans ?_
  have e : (constant S512x1024 .f32 0x00000000#32 : FVec Ideal S512x1024 .f32) (ix2 i r) = (0 : EReal) := Ideal.ofBits_zero_f32
  rw [e, zero_add]

section blocks

variable (arg1 : Memref sig .tc .vmem S3072x1024 .bf16) (harg1 : arg1.IsWhole) (arg2 : Memref sig .tc .vmem S512x1536 .i8)
  (harg2 : arg2.IsWhole) (arg3 : Memref sig .tc .vmem S1x1x512 .f32) (harg3 : arg3.IsWhole)
  (arg5 : Memref sig .tc .vmem S512x3072 .bf16) (arg6 : Memref sig .tc .vmem S512x1024 .f32)
  (x0 : Vec Ideal S3072x1024 .bf16) (x1 : Vec Ideal S512x1536 .i8) (x2 : Vec Ideal S1x1x512 .f32)

/-- The codes block loaded whole is the block. -/
theorem load_codes :
    View.readAt (Elt Ideal) arg2.view (Rect.unit ![0, 0] S512x1536.size inb_S512x1536_S512x1536_0_0).toLoadRect (harg2.unread x1)
      = x1 := by
  rw [View.readAt_eq_ld, harg2.read_unread]
  exact View.ld_unit_zero (by funext a; fin_cases a <;> rfl) _ _

/-- The activations block loaded whole is the block. -/
theorem load_acts :
    View.readAt (Elt Ideal) arg1.view (Rect.unit ![0, 0] S3072x1024.size inb_S3072x1024_S3072x1024_0_0).toLoadRect
      (harg1.unread x0) = x0 := by
  rw [View.readAt_eq_ld, harg1.read_unread]
  exact View.ld_unit_zero (by funext a; fin_cases a <;> rfl) _ _

/-- The codes read back whole, from the canonical contents. -/
theorem codes_read :
    arg5.view.readCov (codesP arg2 harg2 x1) (Rect.unit ![0, 0] S512x3072.size inb_S512x3072_S512x3072_0_0).toLoadRect
      = View.canon (codesP arg2 harg2 x1) := by
  rw [View.readCov_eq_canon']
  exact View.ld_unit_zero (by funext a; fin_cases a <;> rfl) _ _

/-- The stored codes: a low code. -/
theorem codes_lo (p : Fin 512) (k : Fin 1536) :
    (View.canon (codesP arg2 harg2 x1) (ix2 p ⟨k.val, by omega⟩) : EReal) = (((16 * lo (x1 (ix2 p k)) : ℤ) : ℝ) : EReal) := by
  unfold codesP
  rw [load_codes, View.canon_cons_of_not_mem]
  · refine Eq.trans ?_ (pay_lo x1 p k)
    have e : (Rect.unit (s := S512x3072) ![0, 0] S512x1536.size inb_S512x3072_S512x1536_0_0).emb (ix2 p k)
        = ix2 p ⟨k.val, by omega⟩ := by
      funext a; apply Fin.ext
      match a with
      | ⟨0, _⟩ => show 0 + 1 * p.val = p.val; omega
      | ⟨1, _⟩ => show 0 + 1 * k.val = k.val; omega
    rw [← e]
    exact View.canon_cons_emb _ _ _ _
  · rw [Rect.mem_set_unit (inb := inb_S512x3072_S512x1536_0_1536)]
    intro h
    have h1 : 1536 ≤ k.val := (h 1).1
    omega

/-- The stored codes: a high code. -/
theorem codes_hi (p : Fin 512) (k : Fin 1536) :
    (View.canon (codesP arg2 harg2 x1) (ix2 p ⟨1536 + k.val, by omega⟩) : EReal)
      = (((16 * hi (x1 (ix2 p k)) : ℤ) : ℝ) : EReal) := by
  unfold codesP
  rw [load_codes]
  refine Eq.trans ?_ (pay_hi x1 p k)
  have e : (Rect.unit (s := S512x3072) ![0, 1536] S512x1536.size inb_S512x3072_S512x1536_0_1536).emb (ix2 p k)
      = ix2 p ⟨1536 + k.val, by omega⟩ := by
    funext a; apply Fin.ext
    match a with
    | ⟨0, _⟩ => show 0 + 1 * p.val = p.val; omega
    | ⟨1, _⟩ => show 1536 + 1 * k.val = 1536 + k.val; omega
  rw [← e]
  exact View.canon_cons_emb _ _ _ _

/-- A quarter of the scales, spread over rows. -/
theorem spread (v : Vec Ideal S1x1x128 .f32) (r l : Fin 128) :
    transpose S128x128 [1, 0] (broadcastTo S128x128 (shapeCast S1x128 (shapeCast S1x128 v shapeCasts_S1x1x128_S1x128)
        shapeCasts_S1x128_S1x128) broadcasts_S1x128_S128x128) transposes_S128x128_p1_0_S128x128 (ix2 r l) = v (ix3 0 0 r) := by
  refine (transpose_apply _ _ _ _ (ix2 l r) (fun a => by
    match a with
    | ⟨0, _⟩ => rfl
    | ⟨1, _⟩ => rfl)).trans ?_
  refine (broadcastTo_apply _ _ _ (ix2 0 r) (fun a => by
    match a with
    | ⟨0, _⟩ => rfl
    | ⟨1, _⟩ => rfl)).trans ?_
  rw [shapeCast_self]
  refine shapeCast_apply _ _ _ (ix3 0 0 r) ?_
  rw [Shape.rowMajor_val_two, Shape.rowMajor_val_three]
  show (0 * 1 + 0) * 128 + r.val = 0 * 128 + r.val
  omega

/-- The factor the kernel multiplies the scales by. -/
theorem sixteenth : (Scalar.ofBits .f32 0x3D800000#32 : Ideal .f32) = (((1 / 16 : ℝ)) : EReal) := by
  show Ideal.ofBits .f32 0x3D800000#32 = _
  simp [Ideal.ofBits, Ideal.ieee]
  rw [← EReal.coe_mul]
  norm_num

/-- The scales as the kernel spreads them: place `i` of the block in every lane, over sixteen. -/
theorem scale_apply (i : Fin 512) (l : Fin 128) :
    (scaleP arg3 harg3 x2 (ix2 i l) : EReal) = (x2 (ix3 0 0 i) : EReal) * ((1 / 16 : ℝ) : EReal) := by
  have ld : ∀ (o : ℕ) (inb : ∀ a, (![0, 0, o] : Fin 3 → ℕ) a + S1x1x128.size a ≤ S1x1x512.size a) (r : Fin 128)
      (hr : o + r.val < 512),
      View.readAt (Elt Ideal) arg3.view (Rect.unit (s := S1x1x512) ![0, 0, o] S1x1x128.size inb).toLoadRect (harg3.unread x2)
        (ix3 0 0 r) = x2 (ix3 0 0 ⟨o + r.val, hr⟩) := by
    intro o inb r hr
    rw [View.readAt_eq_ld, harg3.read_unread]
    show x2 _ = x2 _
    congr 1
    funext a; apply Fin.ext
    match a with
    | ⟨0, _⟩ => rfl
    | ⟨1, _⟩ => rfl
    | ⟨2, _⟩ => show o + 1 * r.val = o + r.val; omega
  unfold scaleP k0_pay1056 k0_pay1055
  dsimp only
  have hi := i.isLt
  have hq : i.val / 128 = 0 ∨ i.val / 128 = 1 ∨ i.val / 128 = 2 ∨ i.val / 128 = 3 := by omega
  obtain ⟨r, hr⟩ : ∃ r : Fin 128, r.val = i.val % 128 := ⟨⟨i.val % 128, Nat.mod_lt _ (by decide)⟩, rfl⟩
  have fin : ∀ (o : ℕ) (inb : ∀ a, (![0, 0, o] : Fin 3 → ℕ) a + S1x1x128.size a ≤ S1x1x512.size a) (ho : o + r.val = i.val),
      (mulf (F := Ideal) (φ := .f32) (transpose S128x128 [1, 0] (broadcastTo S128x128 (shapeCast S1x128 (shapeCast S1x128
          (View.readAt (Elt Ideal) arg3.view (Rect.unit (s := S1x1x512) ![0, 0, o] S1x1x128.size inb).toLoadRect (harg3.unread x2))
          shapeCasts_S1x1x128_S1x128) shapeCasts_S1x128_S1x128) broadcasts_S1x128_S128x128) transposes_S128x128_p1_0_S128x128)
        (broadcast S128x128 (Scalar.ofBits .f32 0x3D800000#32)) (ix2 r l) : EReal)
        = (x2 (ix3 0 0 i) : EReal) * ((1 / 16 : ℝ) : EReal) := by
    intro o inb ho
    refine congrArg₂ (fun a b : EReal => a * b) ((spread _ r l).trans ((ld o inb r (by omega)).trans ?_)) sixteenth
    congr 1
    congr 1
    exact Fin.ext ho
  have nz : ∀ a : Fin S128x128.rank, Fin.cast rfl a ≠ (0 : Fin S512x128.rank) →
      ((ix2 r l : S128x128.Idx) a).val = ((ix2 i l : S512x128.Idx) (Fin.cast rfl a)).val := fun a h => by
    match a with
    | ⟨0, _⟩ => exact absurd rfl h
    | ⟨1, _⟩ => rfl
  rcases hq with hq | hq | hq | hq
  · refine (concatenate_apply_piece (t := S512x128) 0 _ _ _ 0 (by simp) S128x128 _ rfl rfl 0 rfl (ix2 r l) nz
      (by show 0 + r.val = i.val; omega)).trans (fin 0 _ (by omega))
  · refine (concatenate_apply_piece (t := S512x128) 0 _ _ _ 1 (by simp) S128x128 _ rfl rfl 128 rfl (ix2 r l) nz
      (by show 128 + r.val = i.val; omega)).trans (fin 128 _ (by omega))
  · refine (concatenate_apply_piece (t := S512x128) 0 _ _ _ 2 (by simp) S128x128 _ rfl rfl 256 rfl (ix2 r l) nz
      (by show 256 + r.val = i.val; omega)).trans (fin 256 _ (by omega))
  · refine (concatenate_apply_piece (t := S512x128) 0 _ _ _ 3 (by simp) S128x128 _ rfl rfl 384 rfl (ix2 r l) nz
      (by show 384 + r.val = i.val; omega)).trans (fin 384 _ (by omega))

/-- A scaled score: tile `n`, lane group `g`, sublane `s`, lane `l`. -/
theorem val_apply (g : Fin 8) (n : Fin 64) (s : Fin 8) (l : Fin 128) :
    (valP arg1 harg1 arg2 harg2 arg3 harg3 arg5 arg6 x0 x1 x2 g.val n.val (ix2 s l) : EReal)
      = (∑ d : Fin 3072, (View.canon (codesP arg2 harg2 x1) (ix2 ⟨8 * n.val + s.val, by omega⟩ d) : EReal)
            * (x0 (ix2 d ⟨128 * g.val + l.val, by omega⟩) : EReal))
          * ((x2 (ix3 0 0 ⟨8 * n.val + s.val, by omega⟩) : EReal) * ((1 / 16 : ℝ) : EReal)) := by
  have hg : g.val % 8 = g.val := Nat.mod_eq_of_lt g.isLt
  have hn : n.val % 64 = n.val := Nat.mod_eq_of_lt n.isLt
  unfold valP
  refine congrArg₂ (fun a b : EReal => a * b) ?_ ?_
  · unfold scoresP
    rw [codes_read, load_acts, View.readCov_eq_canon']
    rw [View.canon_unit_zero (by funext a; fin_cases a <;> rfl)]
    refine Eq.trans ?_ (pay_scores _ _ _ _)
    refine congrArg (k0_pay1054 _ x0) ?_
    funext a; apply Fin.ext
    match a with
    | ⟨0, _⟩ => show 8 * (n.val % 64) + 1 * s.val = 8 * n.val + s.val; rw [hn]; omega
    | ⟨1, _⟩ => show 128 * (g.val % 8) + 1 * l.val = 128 * g.val + l.val; rw [hg]; omega
  · refine (extractStridedSlice_apply _ _ _ _ (ix2 ⟨8 * n.val + s.val, by omega⟩ l) (fun a => ?_)).trans
      (scale_apply arg3 harg3 x2 _ l)
    match a with
    | ⟨0, _⟩ => show 8 * n.val + s.val = 8 * (n.val % 64) + s.val; rw [hn]
    | ⟨1, _⟩ => show l.val = 0 + l.val; omega

end blocks

end Cert.Score

end
-- ==== Proof.Rounds.lean ====
/- What a round and a block's eight rounds leave, read at one element: the ten greatest of the ten kept and the new values. -/
module

public import proofs.«01_k».proof.Proof.Body

@[expose] public section

noncomputable section

namespace Cert.Rounds

open Idealize.ShloMosaic Idealize.ShloMosaic.SortNet Cert.TopNet Cert.Body

variable {A : Type}

/-- Ten values handed to `k`. -/
def ap {α β : Type} (k : T10 α β) (b : ℕ → α) : β := k (b 0) (b 1) (b 2) (b 3) (b 4) (b 5) (b 6) (b 7) (b 8) (b 9)

/-- The first ten values as a list. -/
def ten {α : Type} (b : ℕ → α) : List α := (List.range 10).map b

/-- The ten entries of a list, as the list of a ten-tuple. -/
theorem ten_eq {α : Type} (b : ℕ → α) : ten b = ap list10 b := rfl

/-- Ten values as a function of their number. -/
def tup {α : Type} : T10 α (ℕ → α) := fun b0 b1 b2 b3 b4 b5 b6 b7 b8 b9 n => [b0, b1, b2, b3, b4, b5, b6, b7, b8].getD n b9

/-- A round hands on ten values, whatever takes them. -/
theorem roundV_tup (mx mn : A → A → A) (V : ℕ → A) (r : ℕ) (b : ℕ → A) {β : Type} (k : T10 A β) :
    ap (roundV mx mn V r k) b = ap k (ap (roundV mx mn V r tup) b) := rfl

/-- So does a merge with ten values. -/
theorem merge10_tup (mx mn : A → A → A) (b c : ℕ → A) {β : Type} (k : T10 A β) :
    merge10 mx mn (b 0) (b 1) (b 2) (b 3) (b 4) (b 5) (b 6) (b 7) (b 8) (b 9)
        (c 0) (c 1) (c 2) (c 3) (c 4) (c 5) (c 6) (c 7) (c 8) (c 9) k
      = ap k (merge10 mx mn (b 0) (b 1) (b 2) (b 3) (b 4) (b 5) (b 6) (b 7) (b 8) (b 9)
        (c 0) (c 1) (c 2) (c 3) (c 4) (c 5) (c 6) (c 7) (c 8) (c 9) tup) := rfl

/-- The sorting network hands on eight values, whatever takes them. -/
theorem sort8_tup {α : Type} (mx mn : α → α → α) (v0 v1 v2 v3 v4 v5 v6 v7 : α) : ∃ a b c d e f g h : α,
    ∀ {β : Type} (k : α → α → α → α → α → α → α → α → β), sort8 mx mn v0 v1 v2 v3 v4 v5 v6 v7 k = k a b c d e f g h :=
  ⟨_, _, _, _, _, _, _, _, fun _ => rfl⟩

variable {α : Type} [LinearOrder α]

/-- A round over a linear order: the ten greatest. -/
theorem round_eq_topList (b : ℕ → α) (v0 v1 v2 v3 v4 v5 v6 v7 : α) (hb : (ten b).Pairwise (· ≥ ·)) :
    TopNet.round max min (b 0) (b 1) (b 2) (b 3) (b 4) (b 5) (b 6) (b 7) (b 8) (b 9) v0 v1 v2 v3 v4 v5 v6 v7 list10
      = topList 10 (ten b ++ [v0, v1, v2, v3, v4, v5, v6, v7]) := by
  unfold TopNet.round
  obtain ⟨s0, s1, s2, s3, s4, s5, s6, s7, hs⟩ := sort8_tup max min v0 v1 v2 v3 v4 v5 v6 v7
  have e := sort8_eq_topList v0 v1 v2 v3 v4 v5 v6 v7
  rw [hs] at e
  rw [hs, merge8_eq_topList hb (by rw [e]; exact pairwise_topList _ _)]
  refine topList_perm (List.Perm.append_left _ ?_)
  rw [e]
  have h8 : (topList 8 [v0, v1, v2, v3, v4, v5, v6, v7]) = List.insertionSort (· ≥ ·) [v0, v1, v2, v3, v4, v5, v6, v7] := by
    unfold topList
    exact List.take_of_length_le (by rw [List.length_insertionSort]; exact le_refl 8)
  rw [h8]
  exact List.perm_insertionSort _ _

variable (mx mn : A → A → A) (h : A → α)

/-- A round read at one element. -/
theorem roundV_at (hx : ∀ a b, max (h a) (h b) = h (mx a b)) (hn : ∀ a b, min (h a) (h b) = h (mn a b)) (V : ℕ → A) (r : ℕ)
    (b : ℕ → A) (hb : (ten (h ∘ b)).Pairwise (· ≥ ·)) :
    ten (h ∘ ap (roundV mx mn V r tup) b)
      = topList 10 (ten (h ∘ b) ++ (List.range 8).map fun i => h (V (8 * r + i))) := by
  have e := round_eq_topList (h ∘ b) (h (V (8 * r))) (h (V (8 * r + 1))) (h (V (8 * r + 2))) (h (V (8 * r + 3)))
    (h (V (8 * r + 4))) (h (V (8 * r + 5))) (h (V (8 * r + 6))) (h (V (8 * r + 7))) hb
  refine Eq.trans ?_ e
  unfold TopNet.round
  rw [sort8_map h hx hn]
  simp only [Function.comp]
  simp only [merge8_map h hx hn]
  rfl

/-- The rounds from round `r` on, `n` of them. -/
def roundsN (V : ℕ → A) : ℕ → ℕ → (ℕ → A) → (ℕ → A)
  | 0, _, b => b
  | n + 1, r, b => roundsN V n (r + 1) (ap (roundV mx mn V r tup) b)

/-- The eight rounds hand on what `roundsN` says. -/
theorem rounds_eq (V : ℕ → A) (b : ℕ → A) {β : Type} (k : T10 A β) :
    ap (rounds mx mn V k) b = ap k (roundsN mx mn V 8 0 b) := by
  unfold rounds
  simp only [roundV_tup mx mn V _ _ (roundV _ _ _ _ _), roundsN]
  rw [roundV_tup]

/-- The rounds read at one element. -/
theorem roundsN_at (hx : ∀ a b, max (h a) (h b) = h (mx a b)) (hn : ∀ a b, min (h a) (h b) = h (mn a b)) (V : ℕ → A) :
    ∀ (n r : ℕ) (b : ℕ → A) (_ : (ten (h ∘ b)).Pairwise (· ≥ ·)),
      ten (h ∘ roundsN mx mn V n r b)
        = topList 10 (ten (h ∘ b) ++ (List.range (8 * n)).map fun i => h (V (8 * r + i)))
  | 0, r, b, hb => by
    simp only [roundsN, Nat.mul_zero, List.range_zero, List.map_nil, List.append_nil]
    exact (topList_eq_self hb (by simp [ten])).symm
  | n + 1, r, b, hb => by
    have e := roundV_at mx mn h hx hn V r b hb
    rw [roundsN, roundsN_at hx hn V n (r + 1) _ (by rw [e]; exact pairwise_topList _ _), e, topList_append_topList,
      List.append_assoc]
    congr 2
    rw [show 8 * (n + 1) = 8 + 8 * n by omega, List.range_add, List.map_append, List.map_map]
    congr 1
    refine List.map_congr_left fun i _ => ?_
    simp only [Function.comp]
    congr 2
    omega

/-- A merge with ten values read at one element. -/
theorem merge10_at (hx : ∀ a b, max (h a) (h b) = h (mx a b)) (hn : ∀ a b, min (h a) (h b) = h (mn a b)) (b c : ℕ → A)
    (hb : (ten (h ∘ b)).Pairwise (· ≥ ·)) (hc : (ten (h ∘ c)).Pairwise (· ≥ ·)) :
    ten (h ∘ merge10 mx mn (b 0) (b 1) (b 2) (b 3) (b 4) (b 5) (b 6) (b 7) (b 8) (b 9)
        (c 0) (c 1) (c 2) (c 3) (c 4) (c 5) (c 6) (c 7) (c 8) (c 9) tup) = topList 10 (ten (h ∘ b) ++ ten (h ∘ c)) := by
  refine Eq.trans ?_ (merge10_eq_topList hb hc)
  simp only [Function.comp]
  rw [merge10_map h hx hn]
  rfl

end Cert.Rounds

end
-- ==== Proof.State.lean ====
/- What one grid point leaves in the ten-best lists, read at one element: at every place the ten greatest of the list before and
   the sixty-four new scores. -/
module

public import proofs.«01_k».proof.Proof.Rounds
public import Idealize.ShloMosaic.Lib.Pipeline.Value
public import Idealize.ShloMosaic.Lib.ValueIdx

@[expose] public section

noncomputable section

namespace Cert.State

open Idealize.ShloMosaic Idealize.ShloMosaic.TcCoe Idealize.ShloMosaic.SortNet
  Idealize.ShloMosaic.ValueIdx Cert.KernelIdeal Cert.KernelIdeal.Gen Cert.TopNet
  Cert.Body Cert.Rounds

/-- The place of entry `k` of the list kept for group `g`, sublane `s`, lane `l`. -/
abbrev at4 (g : Fin 8) (k : ℕ) (s : Fin 8) (l : Fin 128) : S8x10x8x128.Idx := ix4 g ⟨k % 10, Nat.mod_lt _ (by decide)⟩ s l

/-- The list kept for group `g`, sublane `s`, lane `l`. -/
def lst (X : Vec Ideal S8x10x8x128 .f32) (g : Fin 8) (s : Fin 8) (l : Fin 128) : List EReal := ten fun k => X (at4 g k s l)

/-- A stored place: read at an element of its own, the tile; elsewhere, what was there. -/
theorem canon_pieceSt (g k : ℕ) (h : g < 8 ∧ k < 10) (b : FVec Ideal S8x128 .f32)
    (L : List (View.Piece (Elt Ideal) S8x10x8x128 .f32)) (g' : Fin 8) (k' : Fin 10) (s : Fin 8) (l : Fin 128) :
    View.canon (pieceSt g k h b :: L) (ix4 g' k' s l)
      = if g'.val = g ∧ k'.val = k then b (ix2 s l) else View.canon L (ix4 g' k' s l) := by
  by_cases hm : g'.val = g ∧ k'.val = k
  · rw [if_pos hm]
    have e : (rectSt g k h).emb (ix4 (0 : Fin 1) (0 : Fin 1) s l) = ix4 g' k' s l := by
      funext a
      apply Fin.ext
      match a with
      | ⟨0, _⟩ => show g + 1 * 0 = g'.val; omega
      | ⟨1, _⟩ => show k + 1 * 0 = k'.val; omega
      | ⟨2, _⟩ => show 0 + 1 * s.val = s.val; omega
      | ⟨3, _⟩ => show 0 + 1 * l.val = l.val; omega
    rw [← e]
    refine (View.canon_cons_emb (rectSt g k h) _ L _).trans ?_
    refine shapeCast_apply _ _ _ _ ?_
    rw [Shape.rowMajor_val_two, Shape.rowMajor_val_four]
    show s.val * 128 + l.val = ((0 * 1 + 0) * 8 + s.val) * 128 + l.val
    omega
  · rw [if_neg hm]
    refine View.canon_cons_of_not_mem _ L fun hy => hm ?_
    have hy' := (Rect.mem_set_unit (inb := inb_state g k h)).mp hy
    have h0 : g ≤ g'.val ∧ g'.val < g + 1 := hy' 0
    have h1 : k ≤ k'.val ∧ k'.val < k + 1 := hy' 1
    omega

/-- The ten stores of a lane group, `b` the ten tiles. -/
def tenPieces (g : ℕ) (h : g < 8) : T10 (FVec Ideal S8x128 .f32) (List (View.Piece (Elt Ideal) S8x10x8x128 .f32)) :=
  fun b0 b1 b2 b3 b4 b5 b6 b7 b8 b9 =>
    [pieceSt g 9 ⟨h, by decide⟩ b9, pieceSt g 8 ⟨h, by decide⟩ b8, pieceSt g 7 ⟨h, by decide⟩ b7, pieceSt g 6 ⟨h, by decide⟩ b6,
     pieceSt g 5 ⟨h, by decide⟩ b5, pieceSt g 4 ⟨h, by decide⟩ b4, pieceSt g 3 ⟨h, by decide⟩ b3, pieceSt g 2 ⟨h, by decide⟩ b2,
     pieceSt g 1 ⟨h, by decide⟩ b1, pieceSt g 0 ⟨h, by decide⟩ b0]

/-- The ten stores of a lane group read back at an element of the lists. -/
theorem canon_tenPieces (g : ℕ) (h : g < 8) (b : ℕ → FVec Ideal S8x128 .f32)
    (L : List (View.Piece (Elt Ideal) S8x10x8x128 .f32)) (g' : Fin 8) (k' : Fin 10) (s : Fin 8) (l : Fin 128) :
    View.canon (ap (tenPieces g h) b ++ L) (ix4 g' k' s l)
      = if g'.val = g then b k'.val (ix2 s l) else View.canon L (ix4 g' k' s l) := by
  unfold ap tenPieces
  simp only [List.cons_append, List.nil_append, canon_pieceSt]
  by_cases hg : g'.val = g
  · simp only [hg, true_and, if_true]
    fin_cases k' <;> simp
  · simp only [hg, false_and, if_false]

/-- The ten stores a lane group makes, as the ten tiles its rounds leave. -/
theorem groupPieces_eq (V B : ℕ → FVec Ideal S8x128 .f32) (g : ℕ) (h : g < 8) :
    groupPieces V B g h = ap (tenPieces g h) (roundsN maximumf minimumf V 8 0 B) :=
  rounds_eq maximumf minimumf V B (tenPieces g h)

/-- The list of a lane group after its rounds. -/
theorem lst_group (V B : ℕ → FVec Ideal S8x128 .f32) (g : Fin 8) (L : List (View.Piece (Elt Ideal) S8x10x8x128 .f32))
    (s : Fin 8) (l : Fin 128) (hB : (ten fun k => (B k (ix2 s l) : EReal)).Pairwise (· ≥ ·)) :
    lst (View.canon (groupPieces V B g.val g.isLt ++ L)) g s l
      = topList 10 ((ten fun k => (B k (ix2 s l) : EReal)) ++ (List.range 64).map fun n => (V n (ix2 s l) : EReal)) := by
  have e := roundsN_at (A := FVec Ideal S8x128 .f32) (α := EReal) maximumf minimumf (fun b => b (ix2 s l)) (fun a b => rfl)
    (fun a b => rfl) V 8 0 B hB
  rw [groupPieces_eq]
  refine Eq.trans ?_ (e.trans ?_)
  · unfold lst ten
    refine List.map_congr_left fun k hk => ?_
    have hk' : k % 10 = k := Nat.mod_eq_of_lt (List.mem_range.mp hk)
    refine (canon_tenPieces g.val g.isLt _ L g _ s l).trans ?_
    rw [if_pos rfl]
    show _ = roundsN maximumf minimumf V 8 0 B k (ix2 s l)
    rw [← hk']
    simp only [Nat.mod_mod]
  · simp only [Nat.mul_zero, Nat.zero_add]
    rfl

/-- The list of another lane group is as it was. -/
theorem lst_group_ne (V B : ℕ → FVec Ideal S8x128 .f32) (n : ℕ) (h : n < 8) (g : Fin 8) (hg : g.val ≠ n)
    (L : List (View.Piece (Elt Ideal) S8x10x8x128 .f32)) (k : Fin 10) (s : Fin 8) (l : Fin 128) :
    View.canon (groupPieces V B n h ++ L) (ix4 g k s l) = View.canon L (ix4 g k s l) := by
  rw [groupPieces_eq, canon_tenPieces, if_neg hg]

/-- A place loaded from a buffer, at an element. -/
theorem loadSt_apply (arg7 : Memref sig .tc .vmem S8x10x8x128 .f32) (harg7 : arg7.IsWhole) (xs : Vec Ideal S8x10x8x128 .f32)
    (g : Fin 8) (k : ℕ) (h : g.val < 8 ∧ k % 10 < 10) (s : Fin 8) (l : Fin 128) :
    loadSt arg7 harg7 xs g.val (k % 10) h (ix2 s l) = xs (at4 g k s l) := by
  unfold loadSt
  rw [View.readAt_eq_ld, harg7.read_unread]
  refine (shapeCast_apply _ _ _ (ix4 (0 : Fin 1) (0 : Fin 1) s l) ?_).trans ?_
  · rw [Shape.rowMajor_val_two, Shape.rowMajor_val_four]
    show ((0 * 1 + 0) * 8 + s.val) * 128 + l.val = s.val * 128 + l.val
    omega
  · show xs _ = xs _
    congr 1
    funext a
    apply Fin.ext
    match a with
    | ⟨0, _⟩ => show g.val + 1 * 0 = g.val; omega
    | ⟨1, _⟩ => show k % 10 + 1 * 0 = k % 10; omega
    | ⟨2, _⟩ => show 0 + 1 * s.val = s.val; omega
    | ⟨3, _⟩ => show 0 + 1 * l.val = l.val; omega

/-- A place loaded back from stores, at an element. -/
theorem loadCov_apply (arg7 : Memref sig .tc .vmem S8x10x8x128 .f32) (L : List (View.Piece (Elt Ideal) S8x10x8x128 .f32))
    (g : Fin 8) (k : ℕ) (h : g.val < 8 ∧ k % 10 < 10) (s : Fin 8) (l : Fin 128) :
    loadCov arg7 L g.val (k % 10) h (ix2 s l) = View.canon L (at4 g k s l) := by
  unfold loadCov
  rw [View.readCov_eq_canon']
  refine (shapeCast_apply _ _ _ (ix4 (0 : Fin 1) (0 : Fin 1) s l) ?_).trans ?_
  · rw [Shape.rowMajor_val_two, Shape.rowMajor_val_four]
    show ((0 * 1 + 0) * 8 + s.val) * 128 + l.val = s.val * 128 + l.val
    omega
  · show View.canon L _ = View.canon L _
    congr 1
    funext a
    apply Fin.ext
    match a with
    | ⟨0, _⟩ => show g.val + 1 * 0 = g.val; omega
    | ⟨1, _⟩ => show k % 10 + 1 * 0 = k % 10; omega
    | ⟨2, _⟩ => show 0 + 1 * s.val = s.val; omega
    | ⟨3, _⟩ => show 0 + 1 * l.val = l.val; omega

/-- After the stores of the first `n` lane groups, the list of each of them: the ten greatest of the list loaded and the new scores. -/
theorem lst_statesLd (arg7 : Memref sig .tc .vmem S8x10x8x128 .f32) (harg7 : arg7.IsWhole) (xs : Vec Ideal S8x10x8x128 .f32)
    (V : ℕ → ℕ → FVec Ideal S8x128 .f32) (g : Fin 8) (s : Fin 8) (l : Fin 128) (hd : (lst xs g s l).Pairwise (· ≥ ·)) :
    ∀ (n : ℕ) (h : n ≤ 8), g.val < n →
      lst (View.canon (statesLd arg7 harg7 xs V n h)) g s l
        = topList 10 (lst xs g s l ++ (List.range 64).map fun n => (V g.val n (ix2 s l) : EReal))
  | 0, _, hg => absurd hg (Nat.not_lt_zero _)
  | n + 1, h, hg => by
    rw [statesLd]
    by_cases hn : g.val = n
    · subst hn
      have e : (ten fun k => (loadSt arg7 harg7 xs g.val (k % 10) ⟨h, Nat.mod_lt _ (by decide)⟩ (ix2 s l) : EReal)) = lst xs g s l := by
        unfold lst
        congr 1
        funext k
        exact loadSt_apply arg7 harg7 xs g k _ s l
      rw [lst_group _ _ g _ s l (by rw [e]; exact hd), e]
    · refine Eq.trans ?_ (lst_statesLd arg7 harg7 xs V g s l hd n (Nat.le_of_succ_le h) (by omega))
      unfold lst
      congr 1
      funext k
      exact lst_group_ne _ _ n h g hn _ _ s l

/-- The lists of the lane groups not stored yet are as they were. -/
theorem canon_statesCov_of_le (arg7 : Memref sig .tc .vmem S8x10x8x128 .f32)
    (L : List (View.Piece (Elt Ideal) S8x10x8x128 .f32)) (V : ℕ → ℕ → FVec Ideal S8x128 .f32) (g : Fin 8) (k : Fin 10) (s : Fin 8)
    (l : Fin 128) :
    ∀ (n : ℕ) (h : n ≤ 8), n ≤ g.val → View.canon (statesCov arg7 L V n h) (ix4 g k s l) = View.canon L (ix4 g k s l)
  | 0, _, _ => rfl
  | n + 1, h, hg => by
    rw [statesCov, lst_group_ne _ _ n h g (by omega)]
    exact canon_statesCov_of_le arg7 L V g k s l n _ (by omega)

/-- The same where each lane group's list is loaded back from the stores before it. -/
theorem lst_statesCov (arg7 : Memref sig .tc .vmem S8x10x8x128 .f32)
    (L : List (View.Piece (Elt Ideal) S8x10x8x128 .f32)) (V : ℕ → ℕ → FVec Ideal S8x128 .f32) (g : Fin 8) (s : Fin 8)
    (l : Fin 128) (hd : (lst (View.canon L) g s l).Pairwise (· ≥ ·)) :
    ∀ (n : ℕ) (h : n ≤ 8), g.val < n →
      lst (View.canon (statesCov arg7 L V n h)) g s l
        = topList 10 (lst (View.canon L) g s l ++ (List.range 64).map fun n => (V g.val n (ix2 s l) : EReal))
  | 0, _, hg => absurd hg (Nat.not_lt_zero _)
  | n + 1, h, hg => by
    rw [statesCov]
    by_cases hn : g.val = n
    · subst hn
      have e : (ten fun k => (loadCov arg7 (statesCov arg7 L V g.val (Nat.le_of_succ_le h)) g.val (k % 10)
          ⟨h, Nat.mod_lt _ (by decide)⟩ (ix2 s l) : EReal)) = lst (View.canon L) g s l := by
        unfold lst
        congr 1
        funext k
        exact (loadCov_apply arg7 _ g k _ s l).trans (canon_statesCov_of_le arg7 L V g _ s l _ _ (le_refl _))
      rw [lst_group _ _ g _ s l (by rw [e]; exact hd), e]
    · refine Eq.trans ?_ (lst_statesCov arg7 L V g s l hd n (Nat.le_of_succ_le h) (by omega))
      unfold lst
      congr 1
      funext k
      exact lst_group_ne _ _ n h g hn _ _ s l

end Cert.State

end
-- ==== Proof.Final.lean ====
/- What the last grid point makes of the lists: the eight sublanes' lists of a lane are merged, and entry `k` of the merged list of
   lane `l` goes to row `l`, column `k`. -/
module

public import proofs.«01_k».proof.Proof.State
public import Idealize.ShloMosaic.Lib.KernelVsHost

@[expose] public section

noncomputable section

namespace Cert.Final

open Idealize.ShloMosaic Idealize.ShloMosaic.TcCoe Idealize.ShloMosaic.SortNet
  Idealize.ShloMosaic.ValueIdx Cert.KernelIdeal Cert.KernelIdeal.Gen Cert.TopNet Cert.Body Cert.Rounds Cert.State

/-- The ten tiles after a merge with themselves turned by `n`. -/
def turnB (n : BitVec 32) (b : ℕ → FVec Ideal S8x128 .f32) : ℕ → FVec Ideal S8x128 .f32 := ap (turned n tup) b

/-- The ten tiles rotated by `n` sublanes, handed on together. -/
theorem turned_eq {β : Type} (n : BitVec 32) (b : ℕ → FVec Ideal S8x128 .f32) (k : T10 (FVec Ideal S8x128 .f32) β) :
    ap (turned n k) b = ap k (turnB n b) :=
  merge10_tup maximumf minimumf b (fun i => dynamicRotate 0 n none (b i) rotates_S8x128_d0) k

/-- The list at a place of ten tiles. -/
abbrev tl (b : ℕ → FVec Ideal S8x128 .f32) (s : Fin 8) (l : Fin 128) : List EReal := ten fun k => (b k (ix2 s l) : EReal)

/-- The list after a merge with the turned tiles: that of the sublane and that of the sublane `n` before it. -/
theorem tl_turnB (n : BitVec 32) (d : Fin 8) (hn : n.toNat = d.val) (b : ℕ → FVec Ideal S8x128 .f32) (l : Fin 128)
    (hb : ∀ s, (tl b s l).Pairwise (· ≥ ·)) (s : Fin 8) :
    tl (turnB n b) s l = topList 10 (tl b s l ++ tl b (s - d) l) := by
  have hr : ∀ k, dynamicRotate 0 n none (b k) rotates_S8x128_d0 (ix2 s l) = b k (ix2 (s - d) l) := fun k => by
    refine dynamicRotate_apply _ _ _ _ _ _ fun a => ?_
    match a with
    | ⟨0, _⟩ =>
      show (s - d).val = (s.val + 8 - n.toNat % 8) % 8
      rw [hn, Fin.sub_def]
      show (8 - d.val + s.val) % 8 = _
      have := d.isLt
      omega
    | ⟨1, _⟩ => rfl
  have e := merge10_at (A := FVec Ideal S8x128 .f32) (α := EReal) maximumf minimumf (fun v => v (ix2 s l)) (fun a b => rfl)
    (fun a b => rfl) b (fun i => dynamicRotate 0 n none (b i) rotates_S8x128_d0) (hb s)
    (by
      have : (ten ((fun v : FVec Ideal S8x128 .f32 => (v (ix2 s l) : EReal)) ∘ fun i => dynamicRotate 0 n none (b i) rotates_S8x128_d0))
          = tl b (s - d) l := by
        unfold tl; congr 1; funext k; exact hr k
      rw [this]; exact hb _)
  refine e.trans ?_
  congr 2
  unfold tl
  congr 1
  funext k
  exact hr k

/-- A merge of lists that are themselves the greatest of longer ones. -/
theorem merge_top (A B : List EReal) : topList 10 (topList 10 A ++ topList 10 B) = topList 10 (A ++ B) :=
  topList_append_topList_topList 10 A B

/-- The tiles after the three merges. -/
def turn3 (b : ℕ → FVec Ideal S8x128 .f32) : ℕ → FVec Ideal S8x128 .f32 := turnB 1#32 (turnB 2#32 (turnB 4#32 b))

/-- After the three merges every sublane holds the ten greatest of all eight lists of its lane. -/
theorem tl_turn3 (b : ℕ → FVec Ideal S8x128 .f32) (l : Fin 128) (X : Fin 8 → List EReal)
    (hb : ∀ s, tl b s l = topList 10 (X s)) (s : Fin 8) :
    tl (turn3 b) s l = topList 10 ((List.finRange 8).flatMap X) := by
  have d0 : ∀ s, (tl b s l).Pairwise (· ≥ ·) := fun s => by rw [hb]; exact pairwise_topList _ _
  have e1 : ∀ s, tl (turnB 4#32 b) s l = topList 10 (X s ++ X (s - 4)) := fun s => by
    rw [tl_turnB 4#32 4 rfl b l d0, hb, hb, merge_top]
  have d1 : ∀ s, (tl (turnB 4#32 b) s l).Pairwise (· ≥ ·) := fun s => by rw [e1]; exact pairwise_topList _ _
  have e2 : ∀ s, tl (turnB 2#32 (turnB 4#32 b)) s l
      = topList 10 ((X s ++ X (s - 4)) ++ (X (s - 2) ++ X (s - 2 - 4))) := fun s => by
    rw [tl_turnB 2#32 2 rfl _ l d1, e1, e1, merge_top]
  have d2 : ∀ s, (tl (turnB 2#32 (turnB 4#32 b)) s l).Pairwise (· ≥ ·) := fun s => by rw [e2]; exact pairwise_topList _ _
  unfold turn3
  rw [tl_turnB 1#32 1 rfl _ l d2, e2, e2, merge_top]
  have hp : ([s, s - 4, s - 2, s - 2 - 4, s - 1, s - 1 - 4, s - 1 - 2, s - 1 - 2 - 4] : List (Fin 8)).Perm (List.finRange 8) := by
    revert s; decide
  refine topList_perm (List.Perm.trans ?_ (hp.flatMap_right X))
  simp [List.flatMap_cons, List.append_assoc]

/-- `a` on sublane `k`, `b` on the others, at an element. -/
theorem onRow_apply (k : BitVec 32) (a b : FVec Ideal S8x128 .f32) (s : Fin 8) (l : Fin 128) :
    onRow k a b (ix2 s l) = if BitVec.ofNat 32 s.val = k then a (ix2 s l) else b (ix2 s l) := by
  unfold onRow
  rw [select_apply]
  have e : (cmpi .eq (iota .tc S8x128 32 [0] iota_S8x128_d0_w32) (broadcast S8x128 k)) (ix2 s l)
      = IntOp.cmpi .eq (BitVec.ofNat 32 s.val) k := by
    show IntOp.cmpi .eq (iota .tc S8x128 32 [0] iota_S8x128_d0_w32 (ix2 s l)) k = _
    rw [iota_single_apply]
  rw [e]
  unfold Scalar.select IntOp.cmpi
  by_cases h : BitVec.ofNat 32 s.val = k
  · simp [h]
  · have h2 : (BitVec.ofNat 32 s.val == k) = false := by simp [h]
    rw [if_neg h]
    simp [h2]

/-- Three pieces stacked: a row of the first. -/
theorem cat_first (A B : FVec Ideal S8x128 .f32) (C : FVec Ideal S112x128 .f32) (r : Fin 8) (l : Fin 128) :
    concatenate S128x128 0 [⟨S8x128, A⟩, ⟨S8x128, B⟩, ⟨S112x128, C⟩] concatenates_S8x128_S8x128_S112x128_S128x128_d0
      (ix2 ⟨r.val, by omega⟩ l) = A (ix2 r l) :=
  concatenate_apply_piece (t := S128x128) 0 [⟨S8x128, A⟩, ⟨S8x128, B⟩, ⟨S112x128, C⟩] _ _ 0 (by simp) S8x128 A rfl rfl 0 rfl
    (ix2 r l) (fun a => by
      match a with
      | ⟨0, _⟩ => intro h; exact absurd rfl h
      | ⟨1, _⟩ => intro _; rfl) (by show 0 + r.val = r.val; omega)

/-- A row of the second. -/
theorem cat_second (A B : FVec Ideal S8x128 .f32) (C : FVec Ideal S112x128 .f32) (r : Fin 8) (l : Fin 128) :
    concatenate S128x128 0 [⟨S8x128, A⟩, ⟨S8x128, B⟩, ⟨S112x128, C⟩] concatenates_S8x128_S8x128_S112x128_S128x128_d0
      (ix2 ⟨8 + r.val, by omega⟩ l) = B (ix2 r l) :=
  concatenate_apply_piece (t := S128x128) 0 [⟨S8x128, A⟩, ⟨S8x128, B⟩, ⟨S112x128, C⟩] _ _ 1 (by simp) S8x128 B rfl rfl 8 rfl
    (ix2 r l) (fun a => by
      match a with
      | ⟨0, _⟩ => intro h; exact absurd rfl h
      | ⟨1, _⟩ => intro _; rfl) (by show 8 + r.val = 8 + r.val; omega)

/-- The layout: entry `q` of lane `l`. -/
theorem layout_apply (b : ℕ → FVec Ideal S8x128 .f32) (l : Fin 128) (q : Fin 10) :
    (ap layout b) (ix2 l ⟨q.val, by omega⟩) = b q.val (ix2 ⟨q.val % 8, Nat.mod_lt _ (by decide)⟩ l) := by
  unfold ap layout
  refine (transpose_apply _ _ _ _ (ix2 ⟨q.val, by omega⟩ l) (fun a => by
    match a with
    | ⟨0, _⟩ => rfl
    | ⟨1, _⟩ => rfl)).trans ?_
  by_cases hq : q.val < 8
  · refine (cat_first _ _ _ ⟨q.val, hq⟩ l).trans ?_
    simp only [onRow_apply]
    obtain ⟨q, hq10⟩ := q
    simp only at hq
    interval_cases q <;> rfl
  · have hr : (ix2 ⟨q.val, by omega⟩ l : S128x128.Idx) = ix2 ⟨8 + (q.val - 8), by omega⟩ l := by
      congr 1; apply Fin.ext; show q.val = 8 + (q.val - 8); omega
    rw [hr]
    refine (cat_second _ _ _ ⟨q.val - 8, by omega⟩ l).trans ?_
    simp only [onRow_apply]
    obtain ⟨q, hq10⟩ := q
    simp only at hq
    have : q = 8 ∨ q = 9 := by omega
    rcases this with rfl | rfl
    · have c : ¬BitVec.ofNat 32 (8 - 8) = 1#32 := by decide
      rw [if_neg (show ¬BitVec.ofNat 32 ((⟨8, hq10⟩ : Fin 10).val - 8) = 1#32 from c)]
      have e : (⟨8 % 8, Nat.mod_lt _ (by decide)⟩ : Fin 8) = ⟨8 - 8, by decide⟩ := by decide
      show _ = b 8 (ix2 ⟨8 % 8, Nat.mod_lt _ (by decide)⟩ l)
      rw [e]
    · have c : BitVec.ofNat 32 (9 - 8) = 1#32 := by decide
      rw [if_pos (show BitVec.ofNat 32 ((⟨9, hq10⟩ : Fin 10).val - 8) = 1#32 from c)]
      have e : (⟨9 % 8, Nat.mod_lt _ (by decide)⟩ : Fin 8) = ⟨9 - 8, by decide⟩ := by decide
      show _ = b 9 (ix2 ⟨9 % 8, Nat.mod_lt _ (by decide)⟩ l)
      rw [e]

/-- The last point's tile at an element. -/
theorem finalOut_apply (b : ℕ → FVec Ideal S8x128 .f32) (l : Fin 128) (X : Fin 8 → List EReal)
    (hb : ∀ s, tl b s l = topList 10 (X s)) (q : Fin 10) :
    (ap finalOut b (ix2 l ⟨q.val, by omega⟩) : EReal) = (topList 10 ((List.finRange 8).flatMap X)).getD q.val ⊥ := by
  have e : ap finalOut b = ap layout (turn3 b) := by
    unfold finalOut turn3
    rw [turned_eq, turned_eq, turned_eq]
  rw [e, layout_apply, ← tl_turn3 b l X hb ⟨q.val % 8, Nat.mod_lt _ (by decide)⟩]
  unfold tl ten
  simp [List.getD_eq_getElem?_getD, q.isLt]

/-- The result's stores read back. -/
theorem canon_outP (B : ℕ → ℕ → FVec Ideal S8x128 .f32) (g : Fin 8) (l q : Fin 128) :
    ∀ (n : ℕ) (h : n ≤ 8), g.val < n →
      View.canon (outP B n h) (ix2 ⟨128 * g.val + l.val, by omega⟩ q) = ap finalOut (B g.val) (ix2 l q)
  | 0, _, hg => absurd hg (Nat.not_lt_zero _)
  | n + 1, h, hg => by
    rw [outP]
    by_cases hn : g.val = n
    · subst hn
      have e : (Rect.unit (s := S1024x128) ![128 * g.val, 0] S128x128.size (inb_out g.val h)).emb (ix2 l q)
          = ix2 ⟨128 * g.val + l.val, by omega⟩ q := by
        funext a
        apply Fin.ext
        match a with
        | ⟨0, _⟩ => show 128 * g.val + 1 * l.val = 128 * g.val + l.val; omega
        | ⟨1, _⟩ => show 0 + 1 * q.val = q.val; omega
      rw [← e]
      exact View.canon_cons_emb _ _ _ _
    · refine (View.canon_cons_of_not_mem _ _ fun hy => hn ?_).trans (canon_outP B g l q n _ (by omega))
      have hy' := (Rect.mem_set_unit (inb := inb_out n h)).mp hy
      have h0 : 128 * n ≤ 128 * g.val + l.val ∧ 128 * g.val + l.val < 128 * n + 128 := hy' 0
      omega

end Cert.Final

end
-- ==== Proof.Sweep.lean ====
/- The whole grid: what the result holds after the last point, as the ten greatest of all the scores of a row. -/
module

public import proofs.«01_k».proof.Proof.Final

@[expose] public section

noncomputable section

namespace Cert.Sweep

open Idealize.ShloMosaic Idealize.ShloMosaic.TcCoe Idealize.ShloMosaic.SortNet
  Idealize.ShloMosaic.ValueIdx Cert.KernelIdeal Cert.KernelIdeal.Gen Cert.TopNet Cert.Body Cert.Rounds Cert.State Cert.Final

section cases

variable (c : Dev nD) (i : grid0.Coords) (arg1 : Memref sig .tc .vmem S3072x1024 .bf16) (harg1 : arg1.IsWhole)
  (arg2 : Memref sig .tc .vmem S512x1536 .i8) (harg2 : arg2.IsWhole) (arg3 : Memref sig .tc .vmem S1x1x512 .f32)
  (harg3 : arg3.IsWhole) (arg4 : Memref sig .tc .vmem S1024x128 .f32) (harg4 : arg4.IsWhole)
  (arg5 : Memref sig .tc .vmem S512x3072 .bf16) (harg5 : arg5.IsWhole) (arg6 : Memref sig .tc .vmem S512x1024 .f32)
  (harg6 : arg6.IsWhole) (arg7 : Memref sig .tc .vmem S8x10x8x128 .f32) (harg7 : arg7.IsWhole)
  (x0 : Vec Ideal S3072x1024 .bf16) (x1 : Vec Ideal S512x1536 .i8) (x2 : Vec Ideal S1x1x512 .f32)

/-- What the first point leaves in the lists. -/
theorem sout_A (hc0 : cond0_0 i) (hc1 : ¬cond0_1 i) :
    sout0_A_2 c i arg1 harg1 arg2 harg2 arg3 harg3 arg4 harg4 arg5 harg5 arg6 harg6 arg7 harg7 hc0 hc1 x0 x1 x2 = View.canon (statesCov arg7 fillP (valP arg1 harg1 arg2 harg2 arg3 harg3 arg5 arg6 x0 x1 x2) 8 (le_refl 8)) := by
  unfold sout0_A_2
  rw [View.read_writes_junk_eq_canon, run_A]

/-- What a middle point leaves in the lists. -/
theorem sout_B (hc0 : ¬cond0_0 i) (hc1 : ¬cond0_1 i) (xs2 : Vec Ideal S8x10x8x128 .f32) :
    sout0_B_2 c i arg1 harg1 arg2 harg2 arg3 harg3 arg4 harg4 arg5 harg5 arg6 harg6 arg7 harg7 hc0 hc1 x0 x1 x2 xs2
      = View.canon (statesLd arg7 harg7 xs2 (valP arg1 harg1 arg2 harg2 arg3 harg3 arg5 arg6 x0 x1 x2) 8 (le_refl 8)) := by
  unfold sout0_B_2
  rw [View.read_writes_junk_eq_canon, run_B]

/-- What the last point leaves in the lists. -/
theorem sout_C (hc0 : ¬cond0_0 i) (hc1 : cond0_1 i) (xs2 : Vec Ideal S8x10x8x128 .f32) :
    sout0_C_2 c i arg1 harg1 arg2 harg2 arg3 harg3 arg4 harg4 arg5 harg5 arg6 harg6 arg7 harg7 hc0 hc1 x0 x1 x2 xs2
      = View.canon (statesLd arg7 harg7 xs2 (valP arg1 harg1 arg2 harg2 arg3 harg3 arg5 arg6 x0 x1 x2) 8 (le_refl 8)) := by
  unfold sout0_C_2
  rw [View.read_writes_junk_eq_canon, run_C]

/-- What the last point leaves in the result. -/
theorem out_C (hc0 : ¬cond0_0 i) (hc1 : cond0_1 i) (xs2 : Vec Ideal S8x10x8x128 .f32) (g : Fin 8) (l : Fin 128)
    (X : Fin 8 → List EReal) (hs : ∀ s, lst (sout0_C_2 c i arg1 harg1 arg2 harg2 arg3 harg3 arg4 harg4 arg5 harg5 arg6 harg6 arg7 harg7 hc0 hc1 x0 x1 x2 xs2) g s l = topList 10 (X s)) (q : Fin 10) :
    (out0_C_3 c i arg1 harg1 arg2 harg2 arg3 harg3 arg4 harg4 arg5 harg5 arg6 harg6 arg7 harg7 hc0 hc1 x0 x1 x2 xs2 (ix2 ⟨128 * g.val + l.val, by omega⟩ ⟨q.val, by omega⟩) : EReal)
      = (topList 10 ((List.finRange 8).flatMap X)).getD q.val ⊥ := by
  unfold sout0_C_2 at hs
  unfold out0_C_3
  rw [View.read_writes_junk_eq_canon] at hs ⊢
  rw [run_C_out]
  refine (canon_outP _ g l _ 8 (le_refl 8) g.isLt).trans ?_
  refine finalOut_apply _ l _ (fun s => ?_) q
  rw [← hs s]
  unfold lst tl
  congr 1
  funext k
  have hg : g.val % 8 = g.val := Nat.mod_eq_of_lt g.isLt
  simp only [hg]
  exact loadCov_apply _ _ g k _ s l

end cases

attribute [local irreducible] outsAt0 kernelRun0_A kernelRun0_B kernelRun0_C statesLd statesCov

variable (m : (ℓ : Loc nD τ sig) → Buf (Elt Ideal) ℓ)

/-- The scaled scores of grid point `t`, by lane group and sublane tile. -/
def valT (c : Dev nD) (t : Fin cfg0.N) : ℕ → ℕ → FVec Ideal S8x128 .f32 :=
  valP (ms0_0 t) (hs0_0 t) (ms0_1 t) (hs0_1 t) (ms0_2 t) (hs0_2 t) scM0_0 scM0_1 (iblk m c 0 t) (iblk m c 1 t) (iblk m c 2 t)

/-- The same by the point's number. -/
def valN (c : Dev nD) (n : ℕ) : ℕ → ℕ → FVec Ideal S8x128 .f32 :=
  if h : n < cfg0.N then valT m c ⟨n, h⟩ else fun _ _ _ => (⊥ : EReal)

/-- The scores by the point's number are the point's. -/
theorem valN_eq (c : Dev nD) (t : Fin cfg0.N) : valN m c t.val = valT m c t := dif_pos t.isLt

/-- The new scores of a point for one list. -/
def newAt (c : Dev nD) (g s : Fin 8) (l : Fin 128) (n : ℕ) : List EReal :=
  (List.range 64).map fun i => (valN m c n g.val i (ix2 s l) : EReal)

/-- Everything offered to a list up to point `n`: ten times minus infinity, then the scores. -/
def offered (c : Dev nD) (g s : Fin 8) (l : Fin 128) (n : ℕ) : List EReal :=
  List.replicate 10 ⊥ ++ (List.range (n + 1)).flatMap (newAt m c g s l)

/-- The first store leaves minus infinity everywhere. -/
theorem canon_fill (y : S8x10x8x128.Idx) : View.canon (fillP (F := Ideal)) y = (⊥ : EReal) := by
  unfold fillP
  rw [View.canon_unit_zero (by funext a; fin_cases a <;> rfl)]
  unfold k0_pay1050
  show Ideal.ofBits .f32 0xFF800000#32 = ⊥
  simp [Ideal.ofBits, Ideal.ieee]

/-- Each list starts as ten times minus infinity. -/
theorem lst_fill (g s : Fin 8) (l : Fin 128) : lst (View.canon (fillP (F := Ideal))) g s l = List.replicate 10 ⊥ := by
  unfold lst ten
  simp only [canon_fill]
  rfl

/-- The lists after the first point, as its stores. -/
theorem snd_A (c : Dev nD) (t : Fin cfg0.N) (h0 : t.val % 240 = 0) (h1 : ¬t.val % 240 = 239) :
    (outsAt0 m c t.val t.isLt).2 = View.canon (statesCov scM0_2 fillP (valT m c t) 8 (le_refl 8)) := by
  rw [outsAt0_A m c t h0 h1]
  unfold valT
  exact sout_A _ _ _ _ _ _ _ _ _ _ _ _ _ _ _ _ _ _ _ _ _

/-- The lists after a later point, as its stores. -/
theorem snd_BC (c : Dev nD) (t : Fin cfg0.N) (h0 : ¬t.val % 240 = 0) :
    (outsAt0 m c t.val t.isLt).2 = View.canon (statesLd scM0_2 (Memref.isWhole_whole _)
      (outsAt0 m c (t.val - 1) (Nat.lt_of_le_of_lt (Nat.sub_le _ _) t.isLt)).2 (valT m c t) 8 (le_refl 8)) := by
  by_cases h1 : t.val % 240 = 239
  · rw [outsAt0_C m c t h0 h1]
    unfold valT
    exact sout_C _ _ _ _ _ _ _ _ _ _ _ _ _ _ _ _ _ _ _ _ _ _
  · rw [outsAt0_B m c t h0 h1]
    unfold valT
    exact sout_B _ _ _ _ _ _ _ _ _ _ _ _ _ _ _ _ _ _ _ _ _ _

/-- The lists after the first point. -/
theorem lst_zero (c : Dev nD) (g s : Fin 8) (l : Fin 128) (t : Fin cfg0.N) (ht : t.val = 0) :
    lst (outsAt0 m c t.val t.isLt).2 g s l = topList 10 (offered m c g s l t.val) := by
  rw [snd_A m c t (by omega) (by omega), lst_statesCov _ _ _ g s l (by rw [lst_fill]; simp) 8 (le_refl 8) g.isLt, lst_fill]
  unfold offered newAt
  rw [ht]
  simp only [Nat.zero_add, List.range_one, List.flatMap_cons, List.flatMap_nil, List.append_nil]
  rw [← valN_eq, ht]

/-- The lists after a later point, from those after the point before. -/
theorem lst_step (c : Dev nD) (g s : Fin 8) (l : Fin 128) (t : Fin cfg0.N) (h0 : t.val ≠ 0)
    (hd : (lst (outsAt0 m c (t.val - 1) (Nat.lt_of_le_of_lt (Nat.sub_le _ _) t.isLt)).2 g s l).Pairwise (· ≥ ·)) :
    lst (outsAt0 m c t.val t.isLt).2 g s l
      = topList 10 (lst (outsAt0 m c (t.val - 1) (Nat.lt_of_le_of_lt (Nat.sub_le _ _) t.isLt)).2 g s l
          ++ newAt m c g s l t.val) := by
  have hN : t.val < 240 := lt_of_lt_of_eq t.isLt (show cfg0.N = 240 from N_0)
  rw [snd_BC m c t (by omega), lst_statesLd _ _ _ _ g s l hd 8 (le_refl 8) g.isLt]
  unfold newAt
  rw [valN_eq]

/-- The lists after point `n`: the ten greatest of everything offered. -/
theorem lst_sweep (c : Dev nD) (g s : Fin 8) (l : Fin 128) : ∀ (n : ℕ) (hn : n < cfg0.N),
    lst (outsAt0 m c n hn).2 g s l = topList 10 (offered m c g s l n)
  | 0, hn => lst_zero m c g s l ⟨0, hn⟩ rfl
  | n + 1, hn => by
    have ih := lst_sweep c g s l n (Nat.lt_of_succ_lt hn)
    have e := lst_step m c g s l ⟨n + 1, hn⟩ (Nat.succ_ne_zero n)
      (by simp only [Nat.add_sub_cancel]; rw [ih]; exact pairwise_topList _ _)
    simp only [Nat.add_sub_cancel] at e
    rw [e, ih, topList_append_topList]
    congr 1
    unfold offered
    rw [List.range_succ (n := n + 1), List.flatMap_append, List.append_assoc]
    simp only [List.flatMap_cons, List.flatMap_nil, List.append_nil]

/-- The result after the last point: entry `q` of row `128 g + l`. -/
theorem out_last (c : Dev nD) (t : Fin cfg0.N) (ht : t.val = 239) (g : Fin 8) (l : Fin 128) (q : Fin 10) :
    ((outsAt0 m c t.val t.isLt).1 (ix2 ⟨128 * g.val + l.val, by omega⟩ ⟨q.val, by omega⟩) : EReal)
      = (topList 10 ((List.finRange 8).flatMap fun s => offered m c g s l 239)).getD q.val ⊥ := by
  have h0 : ¬t.val % 240 = 0 := by omega
  have h1 : t.val % 240 = 239 := by omega
  have hs : ∀ s, lst (outsAt0 m c t.val t.isLt).2 g s l = topList 10 (offered m c g s l 239) := fun s => by
    rw [← ht]; exact lst_sweep m c g s l t.val t.isLt
  rw [outsAt0_C m c t h0 h1] at hs ⊢
  exact out_C _ _ _ _ _ _ _ _ _ _ _ _ _ _ _ _ _ _ _ _ _ _ g l _ hs q

end Cert.Sweep

end
-- ==== Proof.Inputs.lean ====
/- The blocks the kernel's body is handed, read at an element of the program's arguments. -/
module

public import proofs.«01_k».proof.Proof.Gen.KernelIdeal.Frame
public import Idealize.ShloMosaic.Lib.Pipeline.Value
public import Idealize.ShloMosaic.Lib.ValueIdx

@[expose] public section

noncomputable section

namespace Cert.Inputs

open Idealize.ShloMosaic Idealize.ShloMosaic.TcCoe Idealize.SL.Sem Idealize.ShloMosaic.Pipeline
  Idealize.ShloMosaic.ValueIdx Cert.KernelIdeal Cert.KernelIdeal.Gen

variable {F : FTy → Type} [FloatOps F]

variable (m : (ℓ : Loc nD τ sig) → Buf (Elt F) ℓ)

/-- The turned activations the kernel reads. -/
theorem V_v2 (c : Dev nD) :
    V m c main_v2 = shapeCast S3072x1024 (transpose S2x1536x1024 [2, 1, 0]
      (shapeCast S1024x1536x2 (m ((c : Thread nD τ).loc main_arg0)) shapeCasts_S1x1024x3072_S1024x1536x2)
      transposes_S1024x1536x2_S2x1536x1024_2_1_0) shapeCasts_S2x1536x1024_S3072x1024 := by
  show StableHlo.after hostOps0 _ _ = _
  after_results_simp
  rfl

/-- The scales the kernel reads. -/
theorem V_v3 (c : Dev nD) :
    V m c main_v3 = shapeCast S240x1x512 (m ((c : Thread nD τ).loc main_arg2)) shapeCasts_S122880_S240x1x512 := by
  show StableHlo.after hostOps0 _ _ = _
  after_results_simp
  rfl

/-- A turned activation: row `1536 p + k`, column `r` is entry `2 k + p` of activation row `r`. -/
theorem V_v2_apply (c : Dev nD) (p : Fin 2) (k : Fin 1536) (r : Fin 1024) :
    V m c main_v2 (ix2 ⟨1536 * p.val + k.val, by omega⟩ r)
      = m ((c : Thread nD τ).loc main_arg0) (ix3 0 r ⟨2 * k.val + p.val, by omega⟩) := by
  rw [V_v2]
  refine (shapeCast_apply _ _ _ (ix3 p k r) ?_).trans ?_
  · rw [Shape.rowMajor_val_three, Shape.rowMajor_val_two]
    show (p.val * 1536 + k.val) * 1024 + r.val = (1536 * p.val + k.val) * 1024 + r.val
    omega
  refine (transpose_apply _ _ _ _ (ix3 r k p) ?_).trans ?_
  · intro b
    match b with
    | ⟨0, _⟩ => rfl
    | ⟨1, _⟩ => rfl
    | ⟨2, _⟩ => rfl
  refine shapeCast_apply _ _ _ (ix3 0 r ⟨2 * k.val + p.val, by omega⟩) ?_
  rw [Shape.rowMajor_val_three, Shape.rowMajor_val_three]
  show (0 * 1024 + r.val) * 3072 + (2 * k.val + p.val) = (r.val * 1536 + k.val) * 2 + p.val
  omega

/-- A scale: place `s` of block `t` is scale `512 t + s`. -/
theorem V_v3_apply (c : Dev nD) (t : Fin 240) (s : Fin 512) :
    V m c main_v3 (ix3 t 0 s) = m ((c : Thread nD τ).loc main_arg2) (ix1 ⟨512 * t.val + s.val, by omega⟩) := by
  rw [V_v3]
  refine shapeCast_apply _ _ _ (ix1 ⟨512 * t.val + s.val, by omega⟩) ?_
  rw [Shape.rowMajor_val_three, Shape.rowMajor_val_one]
  show 512 * t.val + s.val = (t.val * 1 + 0) * 512 + s.val
  omega

/-- Input block indices: the activations whole, the codes and scales by the point's number. -/
theorem idx0 : ∀ t : Fin cfg0.N, win0_0.index t (0 : Fin 2) = 0 ∧ win0_0.index t (1 : Fin 2) = 0 :=
  (by decide +kernel : ∀ t : Fin grid0.N, _)
/-- The codes block of point `t` is block `t`. -/
theorem idx1 : ∀ t : Fin cfg0.N, win0_1.index t (0 : Fin 2) = t.val ∧ win0_1.index t (1 : Fin 2) = 0 :=
  (by decide +kernel : ∀ t : Fin grid0.N, _)
/-- The scales block of point `t` is block `t`. -/
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)

/-- The activations block of a point. -/
theorem iblk0_apply (c : Dev nD) (t : Fin cfg0.N) (p : Fin 2) (k : Fin 1536) (r : Fin 1024) :
    (iblk m c 0 t : Vec F S3072x1024 .bf16) (ix2 ⟨1536 * p.val + k.val, by omega⟩ r)
      = m ((c : Thread nD τ).loc main_arg0) (ix3 0 r ⟨2 * k.val + p.val, by omega⟩) := by
  obtain ⟨e0, e1⟩ := idx0 t
  refine Eq.trans ?_ (V_v2_apply m c p k r)
  unfold iblk
  show V m c main_v2 (((cfg0.win 0).blk t).view.emb (ix2 ⟨1536 * p.val + k.val, by omega⟩ r)) = _
  congr 1
  funext a; apply Fin.ext
  match a with
  | ⟨0, _⟩ => show win0_0.index t (0 : Fin 2) * 3072 + 1 * (1536 * p.val + k.val) = 1536 * p.val + k.val; rw [e0]; omega
  | ⟨1, _⟩ => show win0_0.index t (1 : Fin 2) * 1024 + 1 * r.val = r.val; rw [e1]; omega

/-- The codes block of a point: row `i` is code row `512 t + i`. -/
theorem iblk1_apply (c : Dev nD) (t : Fin cfg0.N) (i : Fin 512) (k : Fin 1536) (hN : t.val < 240) :
    (iblk m c 1 t : Vec F S512x1536 .i8) (ix2 i k)
      = m ((c : Thread nD τ).loc main_arg1) (ix2 ⟨512 * t.val + i.val, by omega⟩ k) := by
  obtain ⟨e0, e1⟩ := idx1 t
  refine Eq.trans ?_ (congrFun (V_main_arg1 m c) (ix2 ⟨512 * t.val + i.val, by omega⟩ k))
  unfold iblk
  show V m c main_arg1 (((cfg0.win 1).blk t).view.emb (ix2 i k)) = _
  congr 1
  funext a; apply Fin.ext
  match a with
  | ⟨0, _⟩ => show win0_1.index t (0 : Fin 2) * 512 + 1 * i.val = 512 * t.val + i.val; rw [e0]; omega
  | ⟨1, _⟩ => show win0_1.index t (1 : Fin 2) * 1536 + 1 * k.val = k.val; rw [e1]; omega

/-- The scales block of a point: place `i` is scale `512 t + i`. -/
theorem iblk2_apply (c : Dev nD) (t : Fin cfg0.N) (i : Fin 512) (hN : t.val < 240) :
    (iblk m c 2 t : Vec F S1x1x512 .f32) (ix3 0 0 i)
      = m ((c : Thread nD τ).loc main_arg2) (ix1 ⟨512 * t.val + i.val, by omega⟩) := by
  obtain ⟨e0, e1, e2⟩ := idx2 t
  refine Eq.trans ?_ (V_v3_apply m c ⟨t.val, hN⟩ i)
  unfold iblk
  show V m c main_v3 (((cfg0.win 2).blk t).view.emb (ix3 0 0 i)) = _
  congr 1
  funext a; apply Fin.ext
  match a with
  | ⟨0, _⟩ => show win0_2.index t (0 : Fin 3) * 1 + 1 * 0 = t.val; rw [e0]; omega
  | ⟨1, _⟩ => show win0_2.index t (1 : Fin 3) * 1 + 1 * 0 = 0; rw [e1]
  | ⟨2, _⟩ => show win0_2.index t (2 : Fin 3) * 512 + 1 * i.val = i.val; rw [e2]; omega

end Cert.Inputs

end
-- ==== Proof.Spec.lean ====
/- The scores of the search, as arithmetic on the program's arguments: what both programs rank. -/
module

public import proofs.«01_k».proof.Proof.Words
public import Idealize.ShloMosaic.Lib.ValueIdx
public import Idealize.ShloMosaic.Lib.SortNet.TopList
public import Mathlib.Data.EReal.Operations

@[expose] public section

noncomputable section

namespace Cert.Spec

open Idealize.ShloMosaic Idealize.ShloMosaic.ValueIdx Idealize.ShloMosaic.SortNet
open scoped BigOperators

/-- The score of activation row `r` against database entry `e`: even activations by low codes plus odd activations by
    high codes, times the entry's scale. -/
def score (x0 : (⟨3, ![1, 1024, 3072]⟩ : Shape).Idx → EReal) (x1 : (⟨2, ![122880, 1536]⟩ : Shape).Idx → BitVec 8)
    (x2 : (⟨1, ![122880]⟩ : Shape).Idx → EReal) (r : Fin 1024) (e : Fin 122880) : EReal :=
  ((∑ k : Fin 1536, x0 (ix3 0 r ⟨2 * k.val, by omega⟩) * ((Words.lo (x1 (ix2 e k)) : ℝ) : EReal))
    + ∑ k : Fin 1536, x0 (ix3 0 r ⟨2 * k.val + 1, by omega⟩) * ((Words.hi (x1 (ix2 e k)) : ℝ) : EReal))
    * x2 (ix1 e)

/-- The result: entry `q` of row `r` is the `q`-th greatest of the row's scores. -/
def best (x0 : (⟨3, ![1, 1024, 3072]⟩ : Shape).Idx → EReal) (x1 : (⟨2, ![122880, 1536]⟩ : Shape).Idx → BitVec 8)
    (x2 : (⟨1, ![122880]⟩ : Shape).Idx → EReal) (r : Fin 1024) (q : ℕ) : EReal :=
  (topList 10 ((List.finRange 122880).map (score x0 x1 x2 r))).getD q ⊥

/-- A factor sixteen common to the codes of a sum comes out of it. -/
theorem sum_sixteen {n : ℕ} (c : Fin n → ℤ) (y : Fin n → EReal) :
    ∑ k, (((16 * c k : ℤ) : ℝ) : EReal) * y k = ((16 : ℝ) : EReal) * ∑ k, y k * ((c k : ℝ) : EReal) := by
  induction n with
  | zero => simp
  | succ n ih =>
    rw [Fin.sum_univ_succ, Fin.sum_univ_succ, ih,
      EReal.left_distrib_of_nonneg_of_ne_top (EReal.coe_nonneg.mpr (by norm_num)) (EReal.coe_ne_top _)]
    congr 1
    rw [Int.cast_mul, EReal.coe_mul, mul_assoc, mul_comm (y 0)]
    norm_num

/-- Sixteen on the sum and a sixteenth on the scale cancel. -/
theorem cancel (S s : EReal) : ((16 : ℝ) : EReal) * S * (s * ((1 / 16 : ℝ) : EReal)) = S * s := by
  rw [mul_comm s, mul_mul_mul_comm, ← EReal.coe_mul]
  norm_num

end Cert.Spec

end
-- ==== Proof.Leg.lean ====
/- The scores a grid point ranks are the scores of its database entries. -/
module

public import proofs.«01_k».proof.Proof.Score
public import proofs.«01_k».proof.Proof.Sweep
public import proofs.«01_k».proof.Proof.Inputs
public import proofs.«01_k».proof.Proof.Spec

@[expose] public section

noncomputable section

namespace Cert.Leg

open Idealize.ShloMosaic Idealize.ShloMosaic.TcCoe Idealize.ShloMosaic.ValueIdx Cert.KernelIdeal Cert.KernelIdeal.Gen Cert.Body
  Cert.Spec Cert.Sweep Cert.Inputs Cert.Score
open scoped BigOperators

variable (m : (ℓ : Loc nD τ sig) → Buf (Elt Ideal) ℓ)

/-- The score the search ranks, on the kernel's arguments. -/
def scoreAt (c : Dev nD) (r : Fin 1024) (e : Fin 122880) : EReal :=
  score (m ((c : Thread nD τ).loc main_arg0)) (m ((c : Thread nD τ).loc main_arg1)) (m ((c : Thread nD τ).loc main_arg2)) r e

/-- Point `t`'s value in tile `n`, lane group `g`, sublane `s`, lane `l`: the score of row `128 g + l` against entry
    `512 t + 8 n + s`. -/
theorem valT_apply (c : Dev nD) (t : Fin cfg0.N) (hN : t.val < 240) (g : Fin 8) (n : Fin 64) (s : Fin 8) (l : Fin 128) :
    (valT m c t g.val n.val (ix2 s l) : EReal)
      = scoreAt m c ⟨128 * g.val + l.val, by omega⟩ ⟨512 * t.val + (8 * n.val + s.val), by omega⟩ := by
  unfold valT scoreAt score
  rw [val_apply]
  have e2 := iblk2_apply m c t ⟨8 * n.val + s.val, by omega⟩ hN
  have split : ∀ f : Fin 3072 → EReal, ∑ d, f d
      = (∑ k : Fin 1536, f ⟨k.val, by omega⟩) + ∑ k : Fin 1536, f ⟨1536 + k.val, by omega⟩ := fun f =>
    Fin.sum_univ_add (a := 1536) (b := 1536) f
  rw [split]
  have elo : ∀ k : Fin 1536,
      (View.canon (codesP (ms0_1 t) (hs0_1 t) (iblk m c 1 t)) (ix2 ⟨8 * n.val + s.val, by omega⟩ ⟨k.val, by omega⟩) : EReal)
          * ((iblk m c 0 t : Vec Ideal S3072x1024 .bf16) (ix2 ⟨k.val, by omega⟩ ⟨128 * g.val + l.val, by omega⟩) : EReal)
        = (((16 * Words.lo (m ((c : Thread nD τ).loc main_arg1) (ix2 ⟨512 * t.val + (8 * n.val + s.val), by omega⟩ k)) : ℤ) : ℝ) : EReal)
          * (m ((c : Thread nD τ).loc main_arg0) (ix3 0 ⟨128 * g.val + l.val, by omega⟩ ⟨2 * k.val, by omega⟩) : EReal) := by
    intro k
    have a := codes_lo (ms0_1 t) (hs0_1 t) (iblk m c 1 t) ⟨8 * n.val + s.val, by omega⟩ k
    rw [iblk1_apply m c t _ k hN] at a
    have b := iblk0_apply m c t 0 k ⟨128 * g.val + l.val, by omega⟩
    simp only [Fin.val_zero, Nat.mul_zero, Nat.zero_add, Nat.add_zero] at b
    exact congrArg₂ (fun a b : EReal => a * b) a b
  have ehi : ∀ k : Fin 1536,
      (View.canon (codesP (ms0_1 t) (hs0_1 t) (iblk m c 1 t)) (ix2 ⟨8 * n.val + s.val, by omega⟩ ⟨1536 + k.val, by omega⟩) : EReal)
          * ((iblk m c 0 t : Vec Ideal S3072x1024 .bf16) (ix2 ⟨1536 + k.val, by omega⟩ ⟨128 * g.val + l.val, by omega⟩) : EReal)
        = (((16 * Words.hi (m ((c : Thread nD τ).loc main_arg1) (ix2 ⟨512 * t.val + (8 * n.val + s.val), by omega⟩ k)) : ℤ) : ℝ) : EReal)
          * (m ((c : Thread nD τ).loc main_arg0) (ix3 0 ⟨128 * g.val + l.val, by omega⟩ ⟨2 * k.val + 1, by omega⟩) : EReal) := by
    intro k
    have a := codes_hi (ms0_1 t) (hs0_1 t) (iblk m c 1 t) ⟨8 * n.val + s.val, by omega⟩ k
    rw [iblk1_apply m c t _ k hN] at a
    have b := iblk0_apply m c t 1 k ⟨128 * g.val + l.val, by omega⟩
    simp only [Fin.val_one, Nat.mul_one] at b
    exact congrArg₂ (fun a b : EReal => a * b) a b
  refine Eq.trans (congrArg₂ (fun a b : EReal => a * (b * ((1 / 16 : ℝ) : EReal)))
    (congrArg₂ (fun a b : EReal => a + b) ((Finset.sum_congr rfl fun k _ => elo k).trans (sum_sixteen _ _))
      ((Finset.sum_congr rfl fun k _ => ehi k).trans (sum_sixteen _ _))) e2) ?_
  rw [← EReal.left_distrib_of_nonneg_of_ne_top (EReal.coe_nonneg.mpr (by norm_num)) (EReal.coe_ne_top _)]
  exact cancel _ _

end Cert.Leg

end
-- ==== Proof.Orders.lean ====
/- The order in which the kernel meets the scores does not matter, nor do the sentinels its lists start from. -/
module

public import Idealize.ShloMosaic.Lib.SortNet.TopList
public import Mathlib.Data.EReal.Basic
public import Mathlib.Data.List.Range
public import Mathlib.Data.List.FinRange

@[expose] public section

noncomputable section

namespace Cert.Orders

open Idealize.ShloMosaic.SortNet

/-- The entries in the order the lists of one row meet them: sublane, grid point, tile. -/
def order : List ℕ :=
  (List.range 8).flatMap fun s => (List.range 240).flatMap fun n => (List.range 64).map fun i => 512 * n + (8 * i + s)

/-- The order meets exactly the entries below 122880. -/
theorem mem_order (e : ℕ) : e ∈ order ↔ e < 122880 := by
  unfold order
  simp only [List.mem_flatMap, List.mem_range, List.mem_map]
  constructor
  · rintro ⟨s, hs, n, hn, i, hi, rfl⟩
    omega
  · intro h
    exact ⟨e % 8, by omega, e / 512, by omega, e % 512 / 8, by omega, by omega⟩

/-- The order meets no entry twice. -/
theorem nodup_order : order.Nodup := by
  unfold order
  rw [List.nodup_flatMap]
  refine ⟨fun s hs => ?_, ?_⟩
  · rw [List.nodup_flatMap]
    refine ⟨fun n _ => ?_, ?_⟩
    · refine List.Nodup.map_on (fun i _ j _ h => by omega) List.nodup_range
    · refine List.Pairwise.imp_of_mem (fun {a b} _ _ hab => ?_) (List.nodup_range (n := 240))
      intro x hx hy
      simp only [List.mem_map, List.mem_range] at hx hy hs
      obtain ⟨i, hi, rfl⟩ := hx
      obtain ⟨j, hj, h⟩ := hy
      exact hab (by omega)
  · refine List.Pairwise.imp_of_mem (fun {a b} ha hb hab => ?_) (List.nodup_range (n := 8))
    intro x hx hy
    simp only [List.mem_flatMap, List.mem_map, List.mem_range] at hx hy ha hb
    obtain ⟨n, hn, i, hi, rfl⟩ := hx
    obtain ⟨n', hn', j, hj, h⟩ := hy
    exact hab (by omega)

/-- That order lists every entry once. -/
theorem order_perm : order.Perm (List.range 122880) :=
  (List.perm_ext_iff_of_nodup nodup_order List.nodup_range).2 fun e => (mem_order e).trans List.mem_range.symm

/-- A function of the entries, by their numbers. -/
def byNat (f : Fin 122880 → EReal) (e : ℕ) : EReal := if h : e < 122880 then f ⟨e, h⟩ else ⊥

/-- Listing a function by number, or by entry, is the same. -/
theorem map_byNat (f : Fin 122880 → EReal) : (List.range 122880).map (byNat f) = (List.finRange 122880).map f := by
  rw [← List.map_coe_finRange_eq_range, List.map_map]
  refine List.map_congr_left fun e _ => ?_
  exact dif_pos e.isLt

/-- The ten greatest of all the lists were offered are the ten greatest of the scores. -/
theorem top_offered (f : Fin 122880 → EReal) (o : Fin 8 → ℕ → List EReal)
    (ho : ∀ s n, n < 240 → o s n = (List.range 64).map fun i => byNat f (512 * n + (8 * i + s.val))) :
    topList 10 ((List.finRange 8).flatMap fun s => List.replicate 10 ⊥ ++ (List.range 240).flatMap (o s))
      = topList 10 ((List.finRange 122880).map f) := by
  have e : ((List.finRange 8).flatMap fun s => (List.range 240).flatMap (o s)) = order.map (byNat f) := by
    unfold order
    rw [← List.map_coe_finRange_eq_range (n := 8), List.flatMap_map, List.map_flatMap]
    refine List.flatMap_congr fun s _ => ?_
    rw [List.map_flatMap]
    refine List.flatMap_congr fun n hn => ?_
    rw [ho s n (List.mem_range.mp hn), List.map_map]
    rfl
  have hp : ((List.finRange 8).flatMap fun s => List.replicate 10 ⊥ ++ (List.range 240).flatMap (o s)).Perm
      ((List.finRange 122880).map f ++ (List.finRange 8).flatMap fun _ => List.replicate 10 (⊥ : EReal)) := by
    refine (List.flatMap_append_perm _ _ _).symm.trans ?_
    rw [e]
    refine List.perm_append_comm.trans ?_
    rw [← map_byNat]
    exact (order_perm.map (byNat f)).append_right _
  rw [topList_perm hp]
  refine topList_append_of_le 10 _ _ ?_ ?_
  · rw [List.length_map, List.length_finRange]
    omega
  · intro s hs a _
    simp only [List.mem_flatMap, List.mem_replicate] at hs
    obtain ⟨_, _, _, rfl⟩ := hs
    exact bot_le

end Cert.Orders

end
-- ==== Proof.Ref.lean ====
/- The reference's result, as the ten greatest of each row's scores. -/
module

public import proofs.«01_k».proof.Proof.Gen.ReferenceIdeal.Read
public import proofs.«01_k».proof.Proof.Spec
public import Idealize.ShloMosaic.Lib.SortFacts

@[expose] public section

noncomputable section

namespace Cert.Ref

open Idealize.ShloMosaic Idealize.ShloMosaic.TcCoe Idealize.ShloMosaic.ValueIdx Idealize.ShloMosaic.SortNet
  Cert.ReferenceIdeal Cert.ReferenceIdeal.Gen Cert.ReferenceIdeal.Read Cert.Spec
open scoped BigOperators

/-- A stable descending sort of positions lists the entries as the sorted list of the entries. -/
theorem sorted_entries {N : ℕ} (y : Fin N → EReal) (R : Fin N → Fin N → Bool) (hR : ∀ a b, R a b = decide (y b < y a)) :
    (sortPositions N R).map y = ((List.finRange N).map y).insertionSort (· ≥ ·) := by
  refine eq_of_perm_of_descending (((perm_sortPositions N R).map y).trans (List.perm_insertionSort _ _).symm) ?_
    (List.pairwise_insertionSort _ _)
  rw [List.pairwise_map]
  refine (pairwise_stableSort R R (fun a b h => ?_) (fun _ _ h => h) (fun a b c h h' => ?_) (List.finRange N)).imp
    (fun {a b} h => ?_)
  · rw [hR, decide_eq_true_iff] at h
    rw [hR, decide_eq_false_iff_not]
    exact not_lt_of_gt h
  · rw [hR, decide_eq_false_iff_not, not_lt] at h h' ⊢
    exact h.trans h'
  · rw [hR, decide_eq_false_iff_not, not_lt] at h
    exact h

/-- The compare of the top-k, as an order of the extended reals. -/
theorem before_eq (a b : EReal) : (FloatOps.cmpfTotal (F := Ideal) (φ := .f32) .gt a b == 1#1) = decide (b < a) := by
  show (BitVec.ofBool (decide (b < a)) == 1#1) = decide (b < a)
  by_cases h : b < a
  · rw [decide_eq_true h]; rfl
  · rw [decide_eq_false h]; rfl

/-- The values of a top-k along the last axis of a matrix: entry `q` of row `r` is the `q`-th greatest of the row. -/
theorem topK_apply {R N k : ℕ} (x : (⟨2, ![R, N]⟩ : Shape).Idx → EReal)
    (h : (⟨2, ![R, N]⟩ : Shape).Slices (fun _ => 0) ⟨2, ![R, k]⟩) (hk : k ≤ N) (r : Fin R) (q : Fin k) :
    (Host.topK ⟨2, ![R, k]⟩ 1 (FloatOps.cmpfTotal (F := Ideal) (φ := .f32) .gt) x h).1 (ix2 r q)
      = (topList k ((List.finRange N).map fun e => x (ix2 r e))).getD q.val ⊥ := by
  have hqN : q.val < N := lt_of_lt_of_le q.isLt hk
  have e := sorted_entries (fun e => x (ix2 r e))
    (fun a b => FloatOps.cmpfTotal (F := Ideal) (φ := .f32) .gt (x (ix2 r a)) (x (ix2 r b)) == 1#1) (fun a b => before_eq _ _)
  have upd : ∀ e' : Fin N, Shape.Idx.along (s := ⟨2, ![R, N]⟩) (ix2 r ⟨q.val, hqN⟩) 1 e' = ix2 r e' := fun e' => by
    funext a
    match a with
    | ⟨0, _⟩ => rfl
    | ⟨1, _⟩ => rfl
  unfold topList
  rw [List.getD_eq_getElem?_getD, List.getElem?_take_of_lt q.isLt, ← e, List.getElem?_map]
  unfold Host.topK Host.sort2
  dsimp only
  rw [dif_pos (show 1 < (⟨2, ![R, N]⟩ : Shape).rank from Nat.one_lt_two)]
  refine (extractStridedSlice_apply _ _ _ _ (ix2 r ⟨q.val, hqN⟩) (fun a => by
    match a with
    | ⟨0, _⟩ => exact (Nat.zero_add _).symm
    | ⟨1, _⟩ => exact (Nat.zero_add _).symm)).trans ?_
  have hl : q.val < (sortPositions N fun a b =>
      FloatOps.cmpfTotal (F := Ideal) (φ := .f32) .gt (x (ix2 r a)) (x (ix2 r b)) == 1#1).length := by
    rw [length_sortPositions]; exact hqN
  rw [List.getElem?_eq_getElem hl]
  show x (Shape.Idx.along (s := ⟨2, ![R, N]⟩) (ix2 r ⟨q.val, hqN⟩) 1 (sortedFrom (fun k k' =>
    FloatOps.cmpfTotal (F := Ideal) (φ := .f32) .gt (x (Shape.Idx.along (s := ⟨2, ![R, N]⟩) (ix2 r ⟨q.val, hqN⟩) 1 k))
      (x (Shape.Idx.along (s := ⟨2, ![R, N]⟩) (ix2 r ⟨q.val, hqN⟩) 1 k')) == 1#1) ⟨q.val, hqN⟩)) = _
  have en : (fun k k' => FloatOps.cmpfTotal (F := Ideal) (φ := .f32) .gt
        (x (Shape.Idx.along (s := ⟨2, ![R, N]⟩) (ix2 r ⟨q.val, hqN⟩) 1 k))
        (x (Shape.Idx.along (s := ⟨2, ![R, N]⟩) (ix2 r ⟨q.val, hqN⟩) 1 k')) == 1#1)
      = fun a b : Fin N => FloatOps.cmpfTotal (F := Ideal) (φ := .f32) .gt (x (ix2 r a)) (x (ix2 r b)) == 1#1 := by
    funext a b
    exact congrArg₂ (fun u v => FloatOps.cmpfTotal (F := Ideal) (φ := .f32) .gt (x u) (x v) == 1#1) (upd a) (upd b)
  refine (congrArg (fun before => x (Shape.Idx.along (s := ⟨2, ![R, N]⟩) (ix2 r ⟨q.val, hqN⟩) 1
    (sortedFrom before ⟨q.val, hqN⟩))) en).trans ?_
  exact congrArg x (upd _)

/-- A low code as the reference takes it out of a byte. -/
theorem code_lo (x1 : (⟨S122880x1536, .i8⟩ : BufTy).Contents (Elt Ideal)) (i : S122880x1536.Idx) :
    (val_main_v12 (F := Ideal) x1 i : EReal) = ((Words.lo (x1 i) : ℝ) : EReal) := by
  simp only [val_main_v12_apply, val_main_v11_apply, val_main_v10_apply, val_main_v9_apply, val_main_v8_apply,
    val_main_v7_apply, val_main_v6_apply, val_main_v5_apply, val_main_v4_apply, val_main_v3_apply, val_main_c_apply,
    val_main_c_0_apply, val_main_c_1_apply]
  exact congrArg (fun z : ℤ => ((z : ℝ) : EReal)) (Words.lo_ref (x1 i))

/-- A high code as the reference takes it out of a byte. -/
theorem code_hi (x1 : (⟨S122880x1536, .i8⟩ : BufTy).Contents (Elt Ideal)) (i : S122880x1536.Idx) :
    (val_main_v21 (F := Ideal) x1 i : EReal) = ((Words.hi (x1 i) : ℝ) : EReal) := by
  simp only [val_main_v21_apply, val_main_v20_apply, val_main_v19_apply, val_main_v18_apply, val_main_v17_apply,
    val_main_v16_apply, val_main_v15_apply, val_main_v14_apply, val_main_v13_apply, val_main_v3_apply, val_main_c_2_apply,
    val_main_c_3_apply, val_main_c_4_apply]
  exact congrArg (fun z : ℤ => ((z : ℝ) : EReal)) (Words.hi_ref (x1 i))

section

variable (x0 : (⟨S1x1024x3072, .bf16⟩ : BufTy).Contents (Elt Ideal)) (x1 : (⟨S122880x1536, .i8⟩ : BufTy).Contents (Elt Ideal))
  (x2 : (⟨S122880, .f32⟩ : BufTy).Contents (Elt Ideal))

/-- An activation of the reference's rows. -/
theorem rows_apply (r : Fin 1024) (d : Fin 3072) : val_main_v0 (F := Ideal) x0 (ix2 r d) = x0 (ix3 0 r d) := by
  rw [val_main_v0_apply]
  congr 1
  have hr := r.isLt
  have hd := d.isLt
  funext a; apply Fin.ext
  match a with
  | ⟨0, _⟩ => rfl
  | ⟨1, _⟩ => show (r.val * 3072 + d.val) / 3072 % 1024 = r.val; omega
  | ⟨2, _⟩ => show (r.val * 3072 + d.val) % 3072 = d.val; omega

/-- An even activation. -/
theorem even_apply (r : Fin 1024) (k : Fin 1536) :
    val_main_v1 (F := Ideal) x0 (ix2 r k) = x0 (ix3 0 r ⟨2 * k.val, by omega⟩) := by
  refine Eq.trans ?_ (rows_apply x0 r ⟨2 * k.val, by omega⟩)
  unfold val_main_v1 Host.slice
  congr 1
  funext a; apply Fin.ext
  match a with
  | ⟨0, _⟩ => show 0 + 1 * r.val = r.val; omega
  | ⟨1, _⟩ => show 0 + 2 * k.val = 2 * k.val; omega

/-- An odd activation. -/
theorem odd_apply (r : Fin 1024) (k : Fin 1536) :
    val_main_v2 (F := Ideal) x0 (ix2 r k) = x0 (ix3 0 r ⟨2 * k.val + 1, by omega⟩) := by
  refine Eq.trans ?_ (rows_apply x0 r ⟨2 * k.val + 1, by omega⟩)
  unfold val_main_v2 Host.slice
  congr 1
  funext a; apply Fin.ext
  match a with
  | ⟨0, _⟩ => show 0 + 1 * r.val = r.val; omega
  | ⟨1, _⟩ => show 1 + 2 * k.val = 2 * k.val + 1; omega

/-- The reference's scores. -/
theorem score_apply (r : Fin 1024) (e : Fin 122880) :
    (val_main_v27 (F := Ideal) x0 x1 x2 (ix2 r e) : EReal) = score x0 x1 x2 r e := by
  rw [val_main_v27_apply, val_main_v24_apply, val_main_v22_apply, val_main_v23_apply, val_main_v26_apply, val_main_v25_apply]
  have li : ∀ k : Fin 1536, lidx_main_v22 (ix2 r e) k = ix2 r k := fun k => by
    funext a
    match a with
    | ⟨0, _⟩ => rfl
    | ⟨1, _⟩ => rfl
  have ri : ∀ k : Fin 1536, ridx_main_v22 (ix2 r e) k = ix2 e k := fun k => by
    funext a
    match a with
    | ⟨0, _⟩ => rfl
    | ⟨1, _⟩ => rfl
  have si : idx_main_v25 (idx_main_v26 (ix2 r e)) = ix1 e := by
    funext a
    match a with
    | ⟨0, _⟩ => rfl
  rw [si]
  unfold score
  refine congrArg (fun z : EReal => z * x2 (ix1 e)) (congrArg₂ (fun a b : EReal => a + b)
    (Finset.sum_congr rfl fun k _ => ?_) (Finset.sum_congr rfl fun k _ => ?_))
  · rw [li, ri]
    exact congrArg₂ (fun a b : EReal => a * b) (even_apply x0 r k) (code_lo x1 (ix2 e k))
  · refine Eq.trans (congrArg₂ (fun a b => val_main_v2 (F := Ideal) x0 a * val_main_v21 (F := Ideal) x1 b) (li k) (ri k)) ?_
    exact congrArg₂ (fun a b : EReal => a * b) (odd_apply x0 r k) (code_hi x1 (ix2 e k))

/-- The reference's result. -/
theorem result_apply (r : Fin 1024) (q : Fin 10) :
    (val_main_v28 (F := Ideal) x0 x1 x2 (ix3 0 r q) : EReal) = best x0 x1 x2 r q.val := by
  have hi : idx_main_v28 (ix3 0 r q) = ix2 r q := by
    have hr := r.isLt
    have hq := q.isLt
    funext a; apply Fin.ext
    match a with
    | ⟨0, _⟩ => show ((0 * 1024 + r.val) * 10 + q.val) / 10 = r.val; omega
    | ⟨1, _⟩ => show ((0 * 1024 + r.val) * 10 + q.val) % 10 = q.val; omega
  rw [val_main_v28_apply, hi]
  unfold val_main_values best
  refine (topK_apply (R := 1024) (N := 122880) (k := 10) _ _ (by omega) r q).trans ?_
  simp only [score_apply]

end

end Cert.Ref

end
-- ==== Proof.Value.lean ====
/- Both programs' results, as one function of the arguments: the ten greatest scores of each row, in order. -/
module

public import proofs.«01_k».proof.Proof.Array
public import proofs.«01_k».proof.Proof.Leg
public import proofs.«01_k».proof.Proof.Orders
public import proofs.«01_k».proof.Proof.Ref

@[expose] public section

noncomputable section

namespace Cert.Value

open Idealize.ShloMosaic Idealize.ShloMosaic.TcCoe Idealize.SL.Sem Idealize.ShloMosaic.ValueIdx Idealize.ShloMosaic.SortNet
  Cert.Spec Cert.Orders

/-- The result both programs leave: entry `q` of row `r` is the `q`-th greatest score of the row. -/
def result (x0 : (⟨3, ![1, 1024, 3072]⟩ : Shape).Idx → EReal) (x1 : (⟨2, ![122880, 1536]⟩ : Shape).Idx → BitVec 8)
    (x2 : (⟨1, ![122880]⟩ : Shape).Idx → EReal) (i : (⟨3, ![1, 1024, 10]⟩ : Shape).Idx) : EReal :=
  best x0 x1 x2 (i 1) (i 2).val

/-- A position of the result by its row and its place. -/
theorem pos_eq (i : (⟨3, ![1, 1024, 10]⟩ : Shape).Idx) : i = ix3 0 (i 1) (i 2) := by
  funext a
  match a with
  | ⟨0, _⟩ => exact Fin.ext (Nat.lt_one_iff.mp (i 0).isLt)
  | ⟨1, _⟩ => rfl
  | ⟨2, _⟩ => rfl

section kernel

open Cert.KernelIdeal Cert.KernelIdeal.Gen Cert.Sweep Cert.Leg Cert.Array

variable (m : (ℓ : Loc nD τ sig) → Buf (Elt Ideal) ℓ)

attribute [local irreducible] outsAt0

/-- The scores one list is offered at a point, as scores of the row. -/
theorem newAt_eq (c : Dev nD) (g s : Fin 8) (l : Fin 128) (n : ℕ) (hn : n < 240) :
    newAt m c g s l n = (List.range 64).map fun i =>
      byNat (scoreAt m c ⟨128 * g.val + l.val, by omega⟩) (512 * n + (8 * i + s.val)) := by
  unfold newAt
  refine List.map_congr_left fun i hi => ?_
  have hi' : i < 64 := List.mem_range.mp hi
  have hN : n < cfg0.N := lt_of_lt_of_eq hn (show cfg0.N = 240 from N_0).symm
  have e := valT_apply m c ⟨n, hN⟩ hn g ⟨i, hi'⟩ s l
  have b : byNat (scoreAt m c ⟨128 * g.val + l.val, by omega⟩) (512 * n + (8 * i + s.val))
      = scoreAt m c ⟨128 * g.val + l.val, by omega⟩ ⟨512 * n + (8 * i + s.val), by omega⟩ := dif_pos (by omega)
  rw [b]
  exact (congrArg (fun v : ℕ → ℕ → FVec Ideal S8x128 .f32 => (v g.val i (ix2 s l) : EReal)) (valN_eq m c ⟨n, hN⟩)).trans e

/-- What the last point leaves for row `r`: the row's ten greatest scores. -/
theorem last_best (c : Dev nD) (r : Fin 1024) (q : Fin 10) :
    ((outsAt0 m c tLast.val tLast.isLt).1 (ix2 r ⟨q.val, by omega⟩) : EReal)
      = best (m ((c : Thread nD τ).loc main_arg0)) (m ((c : Thread nD τ).loc main_arg1))
          (m ((c : Thread nD τ).loc main_arg2)) r q.val := by
  obtain ⟨g, hg⟩ : ∃ g : Fin 8, g.val = r.val / 128 := ⟨⟨r.val / 128, by omega⟩, rfl⟩
  obtain ⟨l, hl⟩ : ∃ l : Fin 128, l.val = r.val % 128 := ⟨⟨r.val % 128, by omega⟩, rfl⟩
  have hr : r = ⟨128 * g.val + l.val, by omega⟩ := Fin.ext (by show r.val = 128 * g.val + l.val; omega)
  rw [hr]
  refine (out_last m c tLast rfl g l q).trans ?_
  unfold best offered
  exact congrArg (fun L : List EReal => L.getD q.val ⊥)
    (top_offered (scoreAt m c ⟨128 * g.val + l.val, by omega⟩) (fun s => newAt m c g s l)
      (fun s n hn => newAt_eq m c g s l n hn))

/-- The kernel's result array at an entry. -/
theorem kernel_entry (c : Dev nD) (r : Fin 1024) (q : Fin 10) :
    shapeCast S1x1024x10 (extractStridedSlice S1024x10 ![0, 0] (outsAt0 m c tLast.val tLast.isLt).1
        slices_S1024x128_S1024x10_0_0) shapeCasts_S1024x10_S1x1024x10 (ix3 0 r q)
      = best (m ((c : Thread nD τ).loc main_arg0)) (m ((c : Thread nD τ).loc main_arg1))
          (m ((c : Thread nD τ).loc main_arg2)) r q.val := by
  refine (shapeCast_apply _ _ _ (ix2 r q) ?_).trans ((extractStridedSlice_apply _ _ _ _
    (ix2 r ⟨q.val, by omega⟩) (fun a => by
      match a with
      | ⟨0, _⟩ => exact (Nat.zero_add _).symm
      | ⟨1, _⟩ => exact (Nat.zero_add _).symm)).trans (last_best m c r q))
  rw [Shape.rowMajor_val_two, Shape.rowMajor_val_three]
  show r.val * 10 + q.val = (0 * 1024 + r.val) * 10 + q.val
  omega

/-- The kernel's result array. -/
theorem kernel_result (c : Dev nD) :
    shapeCast S1x1024x10 (extractStridedSlice S1024x10 ![0, 0] (outsAt0 m c tLast.val tLast.isLt).1
        slices_S1024x128_S1024x10_0_0) shapeCasts_S1024x10_S1x1024x10
      = (result (m ((c : Thread nD τ).loc main_arg0)) (m ((c : Thread nD τ).loc main_arg1))
          (m ((c : Thread nD τ).loc main_arg2)) : FVec Ideal S1x1024x10 .f32) := by
  funext i
  rw [pos_eq i]
  exact kernel_entry m c (i 1) (i 2)

/-- The kernel's run: its result is the ten greatest scores of each row, its arguments are unchanged. -/
theorem kernel_run (ρ : Dev nD → PrngReg) :
    θ_run (defs (F := Ideal)) (onTc (τ := τ) (main (F := Ideal))) ⟨m, fun _ => 0, ρ⟩ fun r => ∀ c : Dev nD,
      r.2.mem ((c : Thread nD τ).loc main_v6)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (kernel_result m c), (h c).2⟩) (run m ρ)

end kernel

section reference

open Cert.ReferenceIdeal Cert.ReferenceIdeal.Gen Cert.ReferenceIdeal.Read

/-- The reference's result array. -/
theorem reference_result (x0 : (⟨S1x1024x3072, .bf16⟩ : BufTy).Contents (Elt Ideal))
    (x1 : (⟨S122880x1536, .i8⟩ : BufTy).Contents (Elt Ideal)) (x2 : (⟨S122880, .f32⟩ : BufTy).Contents (Elt Ideal)) :
    val_main_v28 (F := Ideal) x0 x1 x2 = result x0 x1 x2 := by
  funext i
  rw [pos_eq i]
  exact Ref.result_apply x0 x1 x2 (i 1) (i 2)

/-- The reference's run: its result is the ten greatest scores of each row, its arguments are unchanged. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v28)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1.trans (val_main_v28_eq _ _ _)).trans
    (reference_result _ _ _), (h c).2⟩) (Cert.ReferenceIdeal.Value.run m ρ)

end reference

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Value
public import Idealize.ShloMosaic.Adequacy
public import Idealize.ShloMosaic.Init

@[expose] public section

noncomputable section

namespace Cert.Proof

open Idealize.ShloMosaic Idealize.SL.Sem Cert.Kernel

/-- The reference's frame: its run leaves the arguments unchanged, and it declares no semaphore. -/
theorem frame_reference : Cert.quiescent_ReferenceIdeal := fun m ρ _ =>
  (θ_run Cert.ReferenceIdeal.defs _ _).mono (fun r h => ⟨fun c => (h c).2,
    Idealize.ShloMosaic.sem_eq_zero_of_no_sems (by decide) r.2⟩) (Cert.Value.reference_run m ρ)

/-- The kernel and the reference leave the same result: the ten greatest scores of each row, in order. -/
theorem algebraic : Cert.algebraic_KernelIdeal_ReferenceIdeal := by
  intro m ρ m' ρ' _ hagree
  refine ⟨fun c => Cert.Value.result (m ((c.tc : Thread _ _).loc Cert.KernelIdeal.main_arg0))
    (m ((c.tc : Thread _ _).loc Cert.KernelIdeal.main_arg1)) (m ((c.tc : Thread _ _).loc Cert.KernelIdeal.main_arg2)),
    Cert.Value.kernel_run m ρ, ?_⟩
  refine (θ_run Cert.ReferenceIdeal.defs _ _).mono (fun _ h c => ⟨(h c).1.trans ?_, (h c).2⟩) (Cert.Value.reference_run m' ρ')
  obtain ⟨h0, h1, h2⟩ := hagree c
  exact congr (congrArg₂ Cert.Value.result h0 h1) h2

/-- The certificate's claim: the three frames, the idealization and the equality of the results. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
